-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x256x32x32 : Shape := ⟨4, ![16, 256, 32, 32]⟩
abbrev S1024x256 : Shape := ⟨2, ![1024, 256]⟩
abbrev S_ : Shape := ⟨0, ![]⟩

class Facts : Prop where
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16x256x32x32 .f32) (main_arg1 : FVec F S1024x256 .f32) : IVec S_ 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_c : IVec S_ 1 := constantI S_ 1 1#1
  let main_v3 : IVec S_ 1 := (fun x v => Host.reduce IntOp.andi x v reducesTo_S16x256x32x32_S_d0_1_2_3 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16x256x32x32 : Shape := ⟨4, ![16, 256, 32, 32]⟩
abbrev S1024x256 : Shape := ⟨2, ![1024, 256]⟩
abbrev S16x256x1024 : Shape := ⟨3, ![16, 256, 1024]⟩
abbrev S_ : Shape := ⟨0, ![]⟩
abbrev S1x1 : Shape := ⟨2, ![1, 1]⟩
abbrev S4x256x1024 : Shape := ⟨3, ![4, 256, 1024]⟩
abbrev S1024 : Shape := ⟨1, ![1024]⟩
abbrev S1024x1 : Shape := ⟨2, ![1024, 1]⟩
abbrev S1x256x1024 : Shape := ⟨3, ![1, 256, 1024]⟩
abbrev S256x1024 : Shape := ⟨2, ![256, 1024]⟩
abbrev S1x1024 : Shape := ⟨2, ![1, 1024]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 15
  | .vmem => 7
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x256x1024, .f32⟩
  | .hbm, ⟨3, _⟩ => ⟨S_, .f32⟩
  | .hbm, ⟨4, _⟩ => ⟨S1024x256, .f32⟩
  | .hbm, ⟨5, _⟩ => ⟨S1024x256, .f32⟩
  | .hbm, ⟨6, _⟩ => ⟨S1024x256, .bf16⟩
  | .hbm, ⟨7, _⟩ => ⟨S16x256x1024, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x256x32x32, .f32⟩
  | .local _ .vmem, ⟨0, _⟩ => ⟨S4x256x1024, .f32⟩
  | .local _ .vmem, ⟨1, _⟩ => ⟨S4x256x1024, .f32⟩
  | .local _ .vmem, ⟨2, _⟩ => ⟨S1024x256, .f32⟩
  | .local _ .vmem, ⟨3, _⟩ => ⟨S1024x256, .bf16⟩
  | .local _ .vmem, ⟨4, _⟩ => ⟨S4x256x1024, .f32⟩
  | .local _ .vmem, ⟨5, _⟩ => ⟨S4x256x1024, .f32⟩
  | .local _ .vmem, ⟨6, _⟩ => ⟨S1x1, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_call0_v4_1 : Ref sig .tc := ⟨.hbm, 8, rfl⟩
abbrev main_call0_v5 : Ref sig .tc := ⟨.hbm, 9, rfl⟩
abbrev main_call0_cst_0 : Ref sig .tc := ⟨.hbm, 10, rfl⟩
abbrev main_call0_v6 : Ref sig .tc := ⟨.hbm, 11, rfl⟩
abbrev main_call0_cst_1 : Ref sig .tc := ⟨.hbm, 12, rfl⟩
abbrev main_v0_1 : Ref sig .tc := ⟨.hbm, 13, rfl⟩
abbrev main_v0_0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x256x32x32 : Shape := ⟨4, ![16, 256, 32, 32]⟩
abbrev S1024x256 : Shape := ⟨2, ![1024, 256]⟩
abbrev S16x256x1024 : Shape := ⟨3, ![16, 256, 1024]⟩
abbrev S16x1024x256 : Shape := ⟨3, ![16, 1024, 256]⟩
abbrev S_ : Shape := ⟨0, ![]⟩
abbrev S16x1024 : Shape := ⟨2, ![16, 1024]⟩
abbrev S16x1024x1 : Shape := ⟨3, ![16, 1024, 1]⟩
abbrev S1024 : Shape := ⟨1, ![1024]⟩
abbrev S16x1024x1024 : Shape := ⟨3, ![16, 1024, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S1024x256, .f32⟩
  | .hbm, ⟨2, _⟩ => ⟨S16x256x1024, .f32⟩
  | .hbm, ⟨3, _⟩ => ⟨S16x1024x256, .f32⟩
  | .hbm, ⟨4, _⟩ => ⟨S16x1024x256, .f32⟩
  | .hbm, ⟨5, _⟩ => ⟨S_, .f32⟩
  | .hbm, ⟨6, _⟩ => ⟨S16x1024, .f32⟩
  | .hbm, ⟨7, _⟩ => ⟨S16x1024x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S16x1024x1024, .f32⟩
  | .hbm, ⟨12, _⟩ => ⟨S1x1x1024, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S_, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S16x1024x1024, .i32⟩
  | .hbm, ⟨21, _⟩ => ⟨S_, .f32⟩
  | .hbm, ⟨22, _⟩ => ⟨S_, .i32⟩
  | .hbm, ⟨23, _⟩ => ⟨S16x1024, .f32⟩
  | .hbm, ⟨24, _⟩ => ⟨S16x1024, .i32⟩
  | .hbm, ⟨25, _⟩ => ⟨S_, .i32⟩
  | .hbm, ⟨26, _⟩ => ⟨S16x1024, .i32⟩
  | .hbm, ⟨27, _⟩ => ⟨S16x1024, .i1⟩
  | .hbm, ⟨28, _⟩ => ⟨S_, .i32⟩
  | .hbm, ⟨29, _⟩ => ⟨S16x1024, .i32⟩
  | .hbm, ⟨30, _⟩ => ⟨S16x1024, .i32⟩
  | .hbm, ⟨31, _⟩ => ⟨S16x1024, .i32⟩
  | .hbm, ⟨32, _⟩ => ⟨S16x1024x1, .i32⟩
  | .hbm, ⟨33, _⟩ => ⟨S1, .i32⟩
  | .hbm, ⟨34, _⟩ => ⟨S_, .i32⟩
  | .hbm, ⟨35, _⟩ => ⟨S16x1024x1, .i32⟩
  | .hbm, ⟨36, _⟩ => ⟨S16x1024x1, .i1⟩
  | .hbm, ⟨37, _⟩ => ⟨S1x1x1, .i32⟩
  | .hbm, ⟨38, _⟩ => ⟨S16x1024x1, .i32⟩
  | .hbm, ⟨39, _⟩ => ⟨S16x1024x1, .i1⟩
  | .hbm, ⟨40, _⟩ => ⟨S16x1024x1, .i1⟩
  | .hbm, ⟨41, _⟩ => ⟨S_, .i1⟩
  | .hbm, ⟨42, _⟩ => ⟨S16x1024, .i1⟩
  | .hbm, ⟨43, _⟩ => ⟨S16x1024x256, .f32⟩
  | .hbm, ⟨44, _⟩ => ⟨S16x1024x256, .i1⟩
  | .hbm, ⟨45, _⟩ => ⟨S_, .f32⟩
  | .hbm, ⟨46, _⟩ => ⟨S16x1024x256, .f32⟩
  | .hbm, ⟨47, _⟩ => ⟨S16x1024x256, .f32⟩
  | .hbm, ⟨48, _⟩ => ⟨S16x256x1024, .f32⟩
  | .hbm, ⟨49, _⟩ => ⟨S16x256x32x32, .f32⟩
  | .hbm, ⟨50, _⟩ => ⟨S16x256x32x32, .f32⟩
  | .hbm, ⟨51, _⟩ => ⟨S16x256x32x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x256x32x32, .f32⟩
  | .hbm, ⟨57, _⟩ => ⟨S16x256x32x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S16x256x32x32, .f32⟩
  | .hbm, ⟨66, _⟩ => ⟨S16x256x32x32, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩

abbrev nD : Nat := 1
abbrev τ : Topo := Topo.v7x

variable {F : FTy → Type} [FloatOps F]
-- ==== Proof.RefTerm.lean ====
/- What the reference computes, as functions of its two arguments: the squared distances, the index of the least of
   them, the code vectors taken at those indices, and the two results. -/
module

public import proofs.«01_k».proof.Proof.Gen.ReferenceIdeal
public import Idealize.ShloMosaic.Lib.StableHlo.Run

@[expose] public section

noncomputable section

namespace Cert.RefTerm

open Cert.ReferenceIdeal Cert.ReferenceIdeal.Gen Idealize.ShloMosaic Idealize.ShloMosaic.TcCoe Idealize.SL.Sem

variable {F : FTy → Type} [FloatOps F]

/-- The latent vectors as rows: batch, position, channel. -/
def rows (x : FVec F S16x256x32x32 .f32) : FVec F S16x1024x256 .f32 :=
  transpose S16x1024x256 [0, 2, 1] (shapeCast S16x256x1024 x shapeCasts_S16x256x32x32_S16x256x1024) transposes_S16x256x1024_S16x1024x256_0_2_1

/-- The squared norms of the latent rows. -/
def rowSq (x : FVec F S16x256x32x32 .f32) : FVec F S16x1024 .f32 :=
  Host.reduceAdd (mulf (rows x) (rows x)) (constant S_ .f32 0x00000000#32) reducesTo_S16x1024x256_S16x1024_d2 h_S_

/-- The squared norms of the code vectors. -/
def codeSq (e : FVec F S1024x256 .f32) : FVec F S1024 .f32 :=
  Host.reduceAdd (mulf e e) (constant S_ .f32 0x00000000#32) reducesTo_S1024x256_S1024_d1 h_S_

/-- The inner products of every latent row with every code vector. -/
def dots (x : FVec F S16x256x32x32 .f32) (e : FVec F S1024x256 .f32) : FVec F S16x1024x1024 .f32 :=
  Host.dotGeneral dot_S16x1024x256_S1024x256_S16x1024x1024_2_1_01_0_n_n none (rows x) e

/-- The squared distances of every latent row from every code vector. -/
def dist (x : FVec F S16x256x32x32 .f32) (e : FVec F S1024x256 .f32) : FVec F S16x1024x1024 .f32 :=
  subf (addf (broadcastInDim S16x1024x1024 ![0, 1, 2] bcast_S16x1024x1_S16x1024x1024_0_1_2
        (broadcastInDim S16x1024x1 ![0, 1] bcast_S16x1024_S16x1024x1_0_1 (rowSq x)))
      (broadcastInDim S16x1024x1024 ![0, 1, 2] bcast_S1x1x1024_S16x1024x1024_0_1_2
        (broadcastInDim S1x1x1024 ![2] bcast_S1024_S1x1x1024_2 (codeSq e))))
    (mulf (broadcastInDim S16x1024x1024 ![] bcast_S_S16x1024x1024 (constant S_ .f32 0x40000000#32)) (dots x e))

/-- The first index at which a row of distances is least. -/
def argmin (d : FVec F S16x1024x1024 .f32) : IVec S16x1024 32 :=
  fun j => (Host.argReduce reducer_argmin_f32_i32 d (iotaInDim S16x1024x1024 32 2) (constant S_ .f32 0x7F800000#32)
    (constantI S_ 32 0#32) reducesTo_S16x1024x1024_S16x1024_d2 h_S_ j).2

/-- An index below zero counted from the end, as a column. -/
def wrapped (k : IVec S16x1024 32) : IVec S16x1024x1 32 :=
  broadcastInDim S16x1024x1 ![0, 1] bcast_S16x1024_S16x1024x1_0_1
    (select (cmpi .slt k (broadcastInDim S16x1024 ![] bcast_S_S16x1024 (constantI S_ 32 0#32)))
      (addi k (broadcastInDim S16x1024 ![] bcast_S_S16x1024 (constantI S_ 32 1024#32))) k)

/-- Whether an index is in range. -/
def inRange (w : IVec S16x1024x1 32) : IVec S16x1024 1 :=
  Host.reduce IntOp.andi
    (andi (cmpi .sge w (broadcastInDim S16x1024x1 ![] bcast_S_S16x1024x1 (constantI S_ 32 0#32)))
      (cmpi .sle w (broadcastInDim S16x1024x1 ![0, 1, 2] bcast_S1x1x1_S16x1024x1_0_1_2
        (broadcastInDim S1x1x1 ![2] bcast_S1_S1x1x1_2 (constantI S1 32 1023#32)))))
    (constantI S_ 1 1#1) reducesTo_S16x1024x1_S16x1024_d2 h_S_

/-- The code vectors at the given indices; a filler where the index is out of range. -/
def take (e : FVec F S1024x256 .f32) (k : IVec S16x1024 32) : FVec F S16x1024x256 .f32 :=
  select (broadcastInDim S16x1024x256 ![0, 1] bcast_S16x1024_S16x1024x256_0_1 (inRange (wrapped k)))
    (Host.gather gather_S1024x256_S16x1024x1_S16x1024x256_2_0_n_n_0_2_1256 e (wrapped k))
    (broadcastInDim S16x1024x256 ![] bcast_S_S16x1024x256 (constant S_ .f32 0x7FC00000#32))

/-- The chosen code vectors in the latent array's layout. -/
def chosen (x : FVec F S16x256x32x32 .f32) (e : FVec F S1024x256 .f32) : FVec F S16x256x32x32 .f32 :=
  shapeCast S16x256x32x32 (transpose S16x256x1024 [0, 2, 1] (take e (argmin (dist x e))) transposes_S16x1024x256_S16x256x1024_0_2_1)
    shapeCasts_S16x256x1024_S16x256x32x32

/-- The mean squared difference of two arrays. -/
def meanSq (q x : FVec F S16x256x32x32 .f32) : FVec F S_ .f32 :=
  Host.divf (Host.reduceAdd (mulf (subf q x) (subf q x)) (constant S_ .f32 0x00000000#32) reducesTo_S16x256x32x32_S_d0_1_2_3 h_S_)
    (constant S_ .f32 0x4A800000#32)

/-- The loss: a quarter of the mean squared difference, plus the mean squared difference. -/
def loss (q x : FVec F S16x256x32x32 .f32) : FVec F S_ .f32 :=
  addf (mulf (meanSq q x) (constant S_ .f32 0x3E800000#32)) (meanSq q x)

/-- The first result: the latent array plus the difference of the chosen code vectors from it. -/
def output (q x : FVec F S16x256x32x32 .f32) : FVec F S16x256x32x32 .f32 := addf x (subf q x)

end Cert.RefTerm

end
-- ==== Proof.RefRun.lean ====
/- The run of the reference: its operations in order, that it terminates, what its two results hold at the end, that its
   arguments are unchanged and every semaphore counter is zero. -/
module

public import proofs.«01_k».proof.Proof.RefTerm
public import Idealize.ShloMosaic.Lib.Quiescent
public import Idealize.ShloMosaic.Lib.Claim

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order; those of a function it calls stand in the call's place. -/
abbrev ops : List (HloOp τ sig (Elt F)) :=
  [ reshape main_arg0 main_v0 (rfl : (.f32 : EltTy) = .f32) shapeCasts_S16x256x32x32_S16x256x1024,
    unary main_v0 main_v1 ((transpose S16x1024x256 [0, 2, 1] · transposes_S16x256x1024_S16x1024x256_0_2_1) : (⟨S16x256x1024, .f32⟩ : BufTy).Contents (Elt F) → (⟨S16x1024x256, .f32⟩ : BufTy).Contents (Elt F)),
    binary main_v1 main_v1 main_v2 (mulf : (⟨S16x1024x256, .f32⟩ : BufTy).Contents (Elt F) → (⟨S16x1024x256, .f32⟩ : BufTy).Contents (Elt F) → (⟨S16x1024x256, .f32⟩ : BufTy).Contents (Elt F)),
    nullary main_cst (constant S_ .f32 0x00000000#32),
    binary main_v2 main_cst main_v3 ((fun x v => Host.reduceAdd x v reducesTo_S16x1024x256_S16x1024_d2 h_S_) : (⟨S16x1024x256, .f32⟩ : BufTy).Contents (Elt F) → (⟨S_, .f32⟩ : BufTy).Contents (Elt F) → (⟨S16x1024, .f32⟩ : BufTy).Contents (Elt F)),
    unary main_v3 main_v4 (broadcastInDim S16x1024x1 ![0, 1] bcast_S16x1024_S16x1024x1_0_1 : (⟨S16x1024, .f32⟩ : BufTy).Contents (Elt F) → (⟨S16x1024x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    binary main_v1 main_arg1 main_v7 ((fun l r => Host.dotGeneral dot_S16x1024x256_S1024x256_S16x1024x1024_2_1_01_0_n_n none l r) : (⟨S16x1024x256, .f32⟩ : BufTy).Contents (Elt F) → (⟨S1024x256, .f32⟩ : BufTy).Contents (Elt F) → (⟨S16x1024x1024, .f32⟩ : BufTy).Contents (Elt F)),
    unary main_v6 main_v8 (broadcastInDim S1x1x1024 ![2] bcast_S1024_S1x1x1024_2 : (⟨S1024, .f32⟩ : BufTy).Contents (Elt F) → (⟨S1x1x1024, .f32⟩ : BufTy).Contents (Elt F)),
    unary main_v4 main_v9 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v8 main_v10 (broadcastInDim S16x1024x1024 ![0, 1, 2] bcast_S1x1x1024_S16x1024x1024_0_1_2 : (⟨S1x1x1024, .f32⟩ : BufTy).Contents (Elt F) → (⟨S16x1024x1024, .f32⟩ : BufTy).Contents (Elt F)),
    binary main_v9 main_v10 main_v11 (addf : (⟨S16x1024x1024, .f32⟩ : BufTy).Contents (Elt F) → (⟨S16x1024x1024, .f32⟩ : BufTy).Contents (Elt F) → (⟨S16x1024x1024, .f32⟩ : BufTy).Contents (Elt F)),
    nullary main_cst_1 (constant S_ .f32 0x40000000#32),
    unary main_cst_1 main_v12 (broadcastInDim S16x1024x1024 ![] bcast_S_S16x1024x1024 : (⟨S_, .f32⟩ : BufTy).Contents (Elt F) → (⟨S16x1024x1024, .f32⟩ : BufTy).Contents (Elt F)),
    binary main_v12 main_v7 main_v13 (mulf : (⟨S16x1024x1024, .f32⟩ : BufTy).Contents (Elt F) → (⟨S16x1024x1024, .f32⟩ : BufTy).Contents (Elt F) → (⟨S16x1024x1024, .f32⟩ : BufTy).Contents (Elt F)),
    binary main_v11 main_v13 main_v14 (subf : (⟨S16x1024x1024, .f32⟩ : BufTy).Contents (Elt F) → (⟨S16x1024x1024, .f32⟩ : BufTy).Contents (Elt F) → (⟨S16x1024x1024, .f32⟩ : BufTy).Contents (Elt F)),
    TRef.nullary (TRef.of (T := ⟨S16x1024x1024, .i32⟩) main_call0_v0) (iotaInDim S16x1024x1024 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16x1024x1024, .f32⟩) main_v14) (TRef.of (T := ⟨S16x1024x1024, .i32⟩) main_call0_v0) (TRef.of (T := ⟨S_, .f32⟩) main_call0_cst) (TRef.of (T := ⟨S_, .i32⟩) main_call0_c) (TRef.of (T := ⟨S16x1024, .f32⟩) main_call0_v1_0) (fun x y u v j => (Host.argReduce reducer_argmin_f32_i32 x y u v reducesTo_S16x1024x1024_S16x1024_d2 h_S_ j).1),
    TRef.quaternary (TRef.of (T := ⟨S16x1024x1024, .f32⟩) main_v14) (TRef.of (T := ⟨S16x1024x1024, .i32⟩) main_call0_v0) (TRef.of (T := ⟨S_, .f32⟩) main_call0_cst) (TRef.of (T := ⟨S_, .i32⟩) main_call0_c) (TRef.of (T := ⟨S16x1024, .i32⟩) main_v15) (fun x y u v j => (Host.argReduce reducer_argmin_f32_i32 x y u v reducesTo_S16x1024x1024_S16x1024_d2 h_S_ j).2),
    TRef.nullary (TRef.of (T := ⟨S_, .i32⟩) main_call1_c) (constantI S_ 32 0#32),
    TRef.unary (TRef.of (T := ⟨S_, .i32⟩) main_call1_c) (TRef.of (T := ⟨S16x1024, .i32⟩) main_call1_v0) (broadcastInDim S16x1024 ![] bcast_S_S16x1024),
    TRef.binary (TRef.of (T := ⟨S16x1024, .i32⟩) main_v15) (TRef.of (T := ⟨S16x1024, .i32⟩) main_call1_v0) (TRef.of (T := ⟨S16x1024, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S16x1024, .i32⟩) main_call1_v2) (broadcastInDim S16x1024 ![] bcast_S_S16x1024),
    TRef.binary (TRef.of (T := ⟨S16x1024, .i32⟩) main_v15) (TRef.of (T := ⟨S16x1024, .i32⟩) main_call1_v2) (TRef.of (T := ⟨S16x1024, .i32⟩) main_call1_v3) addi,
    TRef.ternary (TRef.of (T := ⟨S16x1024, .i1⟩) main_call1_v1) (TRef.of (T := ⟨S16x1024, .i32⟩) main_call1_v3) (TRef.of (T := ⟨S16x1024, .i32⟩) main_v15) (TRef.of (T := ⟨S16x1024, .i32⟩) main_call1_v4) select,
    TRef.unary (TRef.of (T := ⟨S16x1024, .i32⟩) main_call1_v4) (TRef.of (T := ⟨S16x1024x1, .i32⟩) main_call1_v5) (broadcastInDim S16x1024x1 ![0, 1] bcast_S16x1024_S16x1024x1_0_1),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S16x1024x1, .i32⟩) main_call1_v6) (broadcastInDim S16x1024x1 ![] bcast_S_S16x1024x1),
    TRef.binary (TRef.of (T := ⟨S16x1024x1, .i32⟩) main_call1_v5) (TRef.of (T := ⟨S16x1024x1, .i32⟩) main_call1_v6) (TRef.of (T := ⟨S16x1024x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16x1024x1, .i32⟩) main_call1_v9) (broadcastInDim S16x1024x1 ![0, 1, 2] bcast_S1x1x1_S16x1024x1_0_1_2),
    TRef.binary (TRef.of (T := ⟨S16x1024x1, .i32⟩) main_call1_v5) (TRef.of (T := ⟨S16x1024x1, .i32⟩) main_call1_v9) (TRef.of (T := ⟨S16x1024x1, .i1⟩) main_call1_v10) (cmpi .sle),
    TRef.binary (TRef.of (T := ⟨S16x1024x1, .i1⟩) main_call1_v7) (TRef.of (T := ⟨S16x1024x1, .i1⟩) main_call1_v10) (TRef.of (T := ⟨S16x1024x1, .i1⟩) main_call1_v11) andi,
    TRef.nullary (TRef.of (T := ⟨S_, .i1⟩) main_call1_c_3) (constantI S_ 1 1#1),
    TRef.binary (TRef.of (T := ⟨S16x1024x1, .i1⟩) main_call1_v11) (TRef.of (T := ⟨S_, .i1⟩) main_call1_c_3) (TRef.of (T := ⟨S16x1024, .i1⟩) main_call1_v12) (fun x v => Host.reduce IntOp.andi x v reducesTo_S16x1024x1_S16x1024_d2 h_S_),
    TRef.binary (TRef.of (T := ⟨S1024x256, .f32⟩) main_arg1) (TRef.of (T := ⟨S16x1024x1, .i32⟩) main_call1_v5) (TRef.of (T := ⟨S16x1024x256, .f32⟩) main_call1_v13) (fun x i => Host.gather gather_S1024x256_S16x1024x1_S16x1024x256_2_0_n_n_0_2_1256 x i),
    TRef.unary (TRef.of (T := ⟨S16x1024, .i1⟩) main_call1_v12) (TRef.of (T := ⟨S16x1024x256, .i1⟩) main_call1_v14) (broadcastInDim S16x1024x256 ![0, 1] bcast_S16x1024_S16x1024x256_0_1),
    TRef.nullary (TRef.of (T := ⟨S_, .f32⟩) main_call1_cst) (constant S_ .f32 0x7FC00000#32),
    TRef.unary (TRef.of (T := ⟨S_, .f32⟩) main_call1_cst) (TRef.of (T := ⟨S16x1024x256, .f32⟩) main_call1_v15) (broadcastInDim S16x1024x256 ![] bcast_S_S16x1024x256),
    TRef.ternary (TRef.of (T := ⟨S16x1024x256, .i1⟩) main_call1_v14) (TRef.of (T := ⟨S16x1024x256, .f32⟩) main_call1_v13) (TRef.of (T := ⟨S16x1024x256, .f32⟩) main_call1_v15) (TRef.of (T := ⟨S16x1024x256, .f32⟩) main_v16) select,
    unary main_v16 main_v17 ((transpose S16x256x1024 [0, 2, 1] · transposes_S16x1024x256_S16x256x1024_0_2_1) : (⟨S16x1024x256, .f32⟩ : BufTy).Contents (Elt F) → (⟨S16x256x1024, .f32⟩ : BufTy).Contents (Elt F)),
    reshape main_v17 main_v18 (rfl : (.f32 : EltTy) = .f32) shapeCasts_S16x256x1024_S16x256x32x32,
    binary main_v18 main_arg0 main_v19 (subf : (⟨S16x256x32x32, .f32⟩ : BufTy).Contents (Elt F) → (⟨S16x256x32x32, .f32⟩ : BufTy).Contents (Elt F) → (⟨S16x256x32x32, .f32⟩ : BufTy).Contents (Elt F)),
    binary main_v19 main_v19 main_v20 (mulf : (⟨S16x256x32x32, .f32⟩ : BufTy).Contents (Elt F) → (⟨S16x256x32x32, .f32⟩ : BufTy).Contents (Elt F) → (⟨S16x256x32x32, .f32⟩ : BufTy).Contents (Elt F)),
    nullary main_cst_2 (constant S_ .f32 0x00000000#32),
    binary main_v20 main_cst_2 main_v21 ((fun x v => Host.reduceAdd x v reducesTo_S16x256x32x32_S_d0_1_2_3 h_S_) : (⟨S16x256x32x32, .f32⟩ : BufTy).Contents (Elt F) → (⟨S_, .f32⟩ : BufTy).Contents (Elt F) → (⟨S_, .f32⟩ : BufTy).Contents (Elt F)),
    nullary main_cst_3 (constant S_ .f32 0x4A800000#32),
    binary main_v21 main_cst_3 main_v22 (Host.divf : (⟨S_, .f32⟩ : BufTy).Contents (Elt F) → (⟨S_, .f32⟩ : BufTy).Contents (Elt F) → (⟨S_, .f32⟩ : BufTy).Contents (Elt F)),
    binary main_v18 main_arg0 main_v23 (subf : (⟨S16x256x32x32, .f32⟩ : BufTy).Contents (Elt F) → (⟨S16x256x32x32, .f32⟩ : BufTy).Contents (Elt F) → (⟨S16x256x32x32, .f32⟩ : BufTy).Contents (Elt F)),
    binary main_v23 main_v23 main_v24 (mulf : (⟨S16x256x32x32, .f32⟩ : BufTy).Contents (Elt F) → (⟨S16x256x32x32, .f32⟩ : BufTy).Contents (Elt F) → (⟨S16x256x32x32, .f32⟩ : BufTy).Contents (Elt F)),
    nullary main_cst_4 (constant S_ .f32 0x00000000#32),
    binary main_v24 main_cst_4 main_v25 ((fun x v => Host.reduceAdd x v reducesTo_S16x256x32x32_S_d0_1_2_3 h_S_) : (⟨S16x256x32x32, .f32⟩ : BufTy).Contents (Elt F) → (⟨S_, .f32⟩ : BufTy).Contents (Elt F) → (⟨S_, .f32⟩ : BufTy).Contents (Elt F)),
    nullary main_cst_5 (constant S_ .f32 0x4A800000#32),
    binary main_v25 main_cst_5 main_v26 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_v22 main_cst_6 main_v27 (mulf : (⟨S_, .f32⟩ : BufTy).Contents (Elt F) → (⟨S_, .f32⟩ : BufTy).Contents (Elt F) → (⟨S_, .f32⟩ : BufTy).Contents (Elt F)),
    binary main_v27 main_v26 main_v28 (addf : (⟨S_, .f32⟩ : BufTy).Contents (Elt F) → (⟨S_, .f32⟩ : BufTy).Contents (Elt F) → (⟨S_, .f32⟩ : BufTy).Contents (Elt F)),
    binary main_v18 main_arg0 main_v29 (subf : (⟨S16x256x32x32, .f32⟩ : BufTy).Contents (Elt F) → (⟨S16x256x32x32, .f32⟩ : BufTy).Contents (Elt F) → (⟨S16x256x32x32, .f32⟩ : BufTy).Contents (Elt F)),
    binary main_arg0 main_v29 main_v30 (addf : (⟨S16x256x32x32, .f32⟩ : BufTy).Contents (Elt F) → (⟨S16x256x32x32, .f32⟩ : BufTy).Contents (Elt F) → (⟨S16x256x32x32, .f32⟩ : BufTy).Contents (Elt F)) ]

set_option maxRecDepth 8192 in
set_option maxHeartbeats 4000000 in
/-- The reference is the line of these operations. -/
theorem main_eq (c : Dev nD) : main (F := F) c = seq ops := rfl

/-- No buffer of the reference is scoped. -/
theorem scopedRefs_eq : (Finset.univ.filter fun b : Ref sig .tc => b.isScoped) = ∅ := by decide

/-- Nor any semaphore. -/
theorem scopedSems_eq : (Finset.univ.filter fun sm : SemLoc sig => sm.isScoped .tc) = ∅ := by decide

set_option maxRecDepth 8192 in
/-- Every operation touches the core's own buffers only. -/
theorem ops_sub : (ops : List (HloOp τ sig (Elt F))).Forall fun op => op.bufs ⊆ tcRefs τ sig :=
  ⟨reshape_bufs_sub .., unary_bufs_sub .., binary_bufs_sub .., nullary_bufs_sub .., binary_bufs_sub .., unary_bufs_sub .., binary_bufs_sub .., nullary_bufs_sub .., binary_bufs_sub .., binary_bufs_sub .., unary_bufs_sub .., unary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

set_option maxRecDepth 8192 in
set_option maxHeartbeats 25200000 in
/-- From any memory with zero counters the reference terminates with its results at `output` and `loss` of the chosen
    code vectors and the latent array, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = RefTerm.output (RefTerm.chosen (m ((c.tc : Thread nD τ).loc main_arg0)) (m ((c.tc : Thread nD τ).loc main_arg1))) (m ((c.tc : Thread nD τ).loc main_arg0))
      ∧ r.2.mem ((c.tc : Thread nD τ).loc main_v28)
        = RefTerm.loss (RefTerm.chosen (m ((c.tc : Thread nD τ).loc main_arg0)) (m ((c.tc : Thread nD τ).loc main_arg1))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      (h c main_v30).trans (by simp only [ops, TRef.quaternary, TRef.binary, TRef.nullary, TRef.ternary, TRef.unary, TRef.toBuf, TRef.ofBuf, cast_eq]; after_results_simp <;> rfl),
      (h c main_v28).trans (by simp only [ops, TRef.quaternary, TRef.binary, TRef.nullary, TRef.ternary, TRef.unary, TRef.toBuf, TRef.ofBuf, cast_eq]; after_results_simp <;> rfl),
      (h c main_arg0).trans (by simp only [ops, TRef.quaternary, TRef.binary, TRef.nullary, TRef.ternary, TRef.unary, TRef.toBuf, TRef.ofBuf, cast_eq]; after_results_simp <;> rfl),
      (h c main_arg1).trans (by simp only [ops, TRef.quaternary, TRef.binary, TRef.nullary, TRef.ternary, TRef.unary, TRef.toBuf, TRef.ofBuf, cast_eq]; after_results_simp <;> rfl)⟩)
    (run_seq scopedRefs_eq scopedSems_eq defs main (fun _ => ops) main_eq (fun _ => ops_sub) m ρ)

/-- The reference terminates with its arguments unchanged and every counter zero: it has no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2, sem_eq_zero_of_no_sems (by decide) r.2⟩) (run m ρ)

end Cert.RefRun

end
-- ==== Proof.Finite.lean ====
/- The precondition: every entry of both arguments is a real number. -/
module

public import Idealize.ShloMosaic.Lib.Pointwise
public import Idealize.ShloMosaic.Lib.ReduceAll
public import proofs.«01_k».proof.Proof.Gen.Pre_finite

@[expose] public section

set_option maxRecDepth 16384

noncomputable section

namespace Cert.Finite

open Cert.Pre_finite Cert.Pre_finite.Gen Idealize.ShloMosaic Idealize.ShloMosaic.Pointwise

/-- The bound of the comparison. -/
theorem top_eq : Ideal.ofBits FTy.f32 2139095040#32 = ⊤ := by
  simp [Ideal.ofBits, Ideal.ieee]

instance : Subsingleton S_.Idx := ⟨fun a b => funext fun i => i.elim0⟩

/-- An extended real whose absolute value is below the top is a real. -/
theorem real_of_lt (v : EReal) (h : max v (-v) < ⊤) : ∃ r : ℝ, v = r := by
  induction v with
  | bot => simp at h
  | coe r => exact ⟨r, rfl⟩
  | top => simp at h

/-- What the comparison of one entry says. -/
theorem real_of_one (v : EReal) (h : Ideal.cmp .olt (max v (-v)) ⊤ = 1#1) : ∃ r : ℝ, v = r := by
  refine real_of_lt v ?_
  by_contra hn
  simp [Ideal.cmp, hn] at h

/-- Every entry of the two arguments is a real. -/
theorem real_of_pre (x : FVec Ideal S16x256x32x32 .f32) (e : FVec Ideal S1024x256 .f32)
    (h : Cert.Pre_finite.fn (F := Ideal) x e = fun _ => 1#1) : (∀ i, ∃ r : ℝ, x i = r) ∧ ∀ i, ∃ r : ℝ, e i = r := by
  have h' := congrFun h (Shape.Idx.first h_S_)
  obtain ⟨hx, he⟩ := IntOp.andi_eq_one.1 h'
  constructor
  · intro i
    refine real_of_one _ ?_
    rw [← top_eq]
    exact Host.reduce_andi_all _ _ _ _ _ hx i
  · intro i
    refine real_of_one _ ?_
    rw [← top_eq]
    exact Host.reduce_andi_all _ _ _ _ _ he i

end Cert.Finite

end
-- ==== Proof.Nearest.lean ====
/- The first index at which a function of 1024 indices is least, and the two folds that compute it: the least value by
   a fold of `min`, and its first index by a fold of the signed minimum over index words. -/
module

public import Idealize.ShloMosaic.Lib.Pointwise
public import Idealize.ShloMosaic.Lib.SortNet.Extract

@[expose] public section

noncomputable section

namespace Cert.Nearest

open Idealize.ShloMosaic

/-- The indices at which `d` is least. -/
def minimisers (d : Fin 1024 → EReal) : Finset (Fin 1024) :=
  haveI := Classical.decPred fun k => ∀ j, d k ≤ d j
  Finset.univ.filter fun k => ∀ j, d k ≤ d j

theorem minimisers_nonempty (d : Fin 1024 → EReal) : (minimisers d).Nonempty := by
  obtain ⟨k, hk⟩ := Finite.exists_min d
  exact ⟨k, by simpa [minimisers] using hk⟩

/-- The first index at which `d` is least. -/
def first (d : Fin 1024 → EReal) : Fin 1024 := (minimisers d).min' (minimisers_nonempty d)

/-- The value there is below every value. -/
theorem first_le (d : Fin 1024 → EReal) (j : Fin 1024) : d (first d) ≤ d j := by
  have h := (minimisers d).min'_mem (minimisers_nonempty d)
  simp only [minimisers, Finset.mem_filter, Finset.mem_univ, true_and] at h
  exact h j

/-- No smaller index has that value. -/
theorem first_first (d : Fin 1024 → EReal) (j : Fin 1024) (h : d j = d (first d)) : first d ≤ j :=
  (minimisers d).min'_le j (by
    simp only [minimisers, Finset.mem_filter, Finset.mem_univ, true_and]
    exact fun i => h ▸ first_le d i)

/-- Folding `min` from the top gives the least value. -/
theorem fold_min (d : Fin 1024 → EReal) : Finset.univ.fold min ⊤ d = d (first d) :=
  le_antisymm (Finset.fold_min_le _ |>.2 (.inr ⟨first d, Finset.mem_univ _, le_rfl⟩))
    (Finset.le_fold_min _ |>.2 ⟨le_top, fun j _ => first_le d j⟩)

theorem toInt_index (k : Fin 1024) : (BitVec.ofNat 32 k.val).toInt = k.val := by
  have := k.isLt
  rw [BitVec.toInt_eq_toNat_of_lt (by simp; omega)]
  simp
  omega

/-- Folding the signed minimum over the indices at which `d` is least, every other index standing as 1024, gives the first. -/
theorem fold_minsi (d : Fin 1024 → EReal) [∀ j, Decidable (d j = d (first d))] :
    Finset.univ.fold IntOp.minsi 2147483647#32 (fun j : Fin 1024 => if d j = d (first d) then BitVec.ofNat 32 j.val else 1024#32)
      = BitVec.ofNat 32 (first d).val := by
  apply BitVec.eq_of_toInt_eq
  rw [← Finset.fold_hom (op' := min) (m := BitVec.toInt) SortNet.toInt_minsi, toInt_index]
  refine le_antisymm (Finset.fold_min_le _ |>.2 (.inr ⟨first d, Finset.mem_univ _, ?_⟩)) (Finset.le_fold_min _ |>.2 ⟨?_, fun j _ => ?_⟩)
  · rw [if_pos rfl, toInt_index]
  · have := (first d).isLt
    rw [show (2147483647#32).toInt = 2147483647 from by decide]; omega
  · split
    · next h => rw [toInt_index]; exact_mod_cast first_first d j h
    · have := (first d).isLt
      rw [show (1024#32).toInt = 1024 from by decide]; omega

end Cert.Nearest

end
-- ==== Proof.Batch.lean ====
/- What the kernel computes for one batch: its squared distances, their least value in every column, the code vector
   chosen there, and the sum of the least values. -/
module

public import proofs.«01_k».proof.Proof.Gen.KernelIdeal.Skeleton
public import Idealize.ShloMosaic.Lib.Pointwise
public import proofs.«01_k».proof.Proof.Nearest

@[expose] public section

set_option maxRecDepth 16384

noncomputable section

namespace Cert.Batch

open Cert.KernelIdeal Cert.KernelIdeal.Gen Idealize.ShloMosaic Idealize.ShloMosaic.Pointwise

/-- The kernel's squared distance of column `n` of a batch from code vector `j`, over the doubled code vectors `w`, the
    code vectors' squared norms `q` and the batch `x`. -/
def dist (w : FVec Ideal S1024x256 .bf16) (q : FVec Ideal S1024x1 .f32) (x : Vec Ideal S1x256x1024 .f32) (n j : Fin 1024) : EReal :=
  ((∑ c : Fin 256, x (ix3 0 c n) * x (ix3 0 c n)) + q (ix2 j 0)) - ∑ c : Fin 256, w (ix2 j c) * x (ix3 0 c n)

/-- The value a minimum starts from is above every extended real. -/
theorem top_eq : Ideal.ofBits FTy.f32 2139095040#32 = ⊤ := by
  simp [Ideal.ofBits, Ideal.ieee]

/-- The weight of the chosen code vector. -/
theorem half_eq : Ideal.ofBits FTy.bf16 16128#16 = ((1 / 2 : ℝ) : EReal) := by
  simp [Ideal.ofBits, Ideal.ieee, -EReal.coe_mul]; norm_num

/-- The array of distances. -/
theorem dist_at (w : FVec Ideal S1024x256 .bf16) (q : FVec Ideal S1024x1 .f32) (x : Vec Ideal S1x256x1024 .f32) (j n : Fin 1024) :
    k0_pay8 w q x (ix2 j n) = dist w q x n j := by
  pointwise [k0_pay8, dist]

/-- The least distance of a column. -/
theorem min_at (w : FVec Ideal S1024x256 .bf16) (q : FVec Ideal S1024x1 .f32) (x : Vec Ideal S1x256x1024 .f32) (n : Fin 1024) :
    k0_pay9 w q x (ix2 0 n) = dist w q x n (Nearest.first (dist w q x n)) := by
  pointwise [k0_pay9]
  simp only [top_eq, dist_at]
  exact Nearest.fold_min _

/-- The comparison of an index word with the chosen one, both cut to 16 bits. -/
theorem index_eq (j k : Fin 1024) : IntOp.cmpi .eq (BitVec.ofNat 16 j.val) (BitVec.setWidth 16 (BitVec.ofNat 32 k.val)) = 1 ↔ j = k := by
  have := j.isLt
  have := k.isLt
  simp only [IntOp.cmpi, BitVec.setWidth_ofNat_of_le (show 16 ≤ 32 by decide)]
  constructor
  · intro h
    have h' : BitVec.ofNat 16 j.val = BitVec.ofNat 16 k.val := by
      by_contra hne
      rw [show (BitVec.ofNat 16 j.val == BitVec.ofNat 16 k.val) = false from beq_eq_false_iff_ne.2 hne] at h
      exact absurd h (by decide)
    have := congrArg BitVec.toNat h'
    simp only [BitVec.toNat_ofNat] at this
    exact Fin.ext (by omega)
  · rintro rfl
    simp

/-- The code vector chosen for a column: half of the doubled one nearest to it. -/
theorem chosen_at (w : FVec Ideal S1024x256 .bf16) (q : FVec Ideal S1024x1 .f32) (x : Vec Ideal S1x256x1024 .f32) (c : Fin 256) (n : Fin 1024) :
    k0_pay10 w q x (ix3 0 c n) = w (ix2 (Nearest.first (dist w q x n)) c) * ((1 / 2 : ℝ) : EReal) := by
  pointwise [k0_pay10]
  simp only [half_eq, dist_at, min_at]
  rw [Nearest.fold_minsi (dist w q x n)]
  simp only [Scalar.select, index_eq]
  exact Finset.sum_ite_eq' _ _ _ |>.trans (if_pos (Finset.mem_univ _))

/-- The least distances of a column, for the other batches of a point: the same array. -/
theorem min_first (e : FVec Ideal S1024x256 .f32) (w : FVec Ideal S1024x256 .bf16) (x : Vec Ideal S1x256x1024 .f32) :
    k0_pay4 e w x = k0_pay9 (k0_pay1 w) (k0_pay2 e) x := rfl

theorem min_third (w : FVec Ideal S1024x256 .bf16) (q : FVec Ideal S1024x1 .f32) (x : Vec Ideal S1x256x1024 .f32) :
    k0_pay13 w q x = k0_pay9 w q x := rfl

theorem min_last (w : FVec Ideal S1024x256 .bf16) (q : FVec Ideal S1024x1 .f32) (x : Vec Ideal S1x256x1024 .f32) :
    k0_pay20 w q (k0_pay17 x) (k0_pay18 x) (constant S1024x1024 .f32 0x00000000#32) = k0_pay9 w q x := rfl

/-- The sum over a batch's columns of their least distances. -/
def least (w : FVec Ideal S1024x256 .bf16) (q : FVec Ideal S1024x1 .f32) (x : Vec Ideal S1x256x1024 .f32) : EReal :=
  ∑ n : Fin 1024, dist w q x n (Nearest.first (dist w q x n))

/-- The first batch's sum. -/
theorem sum_first (e : FVec Ideal S1024x256 .f32) (w : FVec Ideal S1024x256 .bf16) (x : Vec Ideal S1x256x1024 .f32) :
    k0_pay6 e w x = least (k0_pay1 w) (k0_pay2 e) x := by
  pointwise [k0_pay6]
  simp only [min_first, min_at, least, Finset.univ_unique, Finset.sum_singleton]

/-- The second batch's sum is added to the first. -/
theorem sum_second (w : FVec Ideal S1024x256 .bf16) (q : FVec Ideal S1024x1 .f32) (a : EReal) (x : Vec Ideal S1x256x1024 .f32) :
    k0_pay11 w q a x = a + least w q x := by
  pointwise [k0_pay11]
  simp only [min_at, least, Finset.univ_unique, Finset.sum_singleton]

/-- The third batch's sum is added to these. -/
theorem sum_third (w : FVec Ideal S1024x256 .bf16) (q : FVec Ideal S1024x1 .f32) (a : EReal) (x : Vec Ideal S1x256x1024 .f32) :
    k0_pay15 w q a x = a + least w q x := by
  pointwise [k0_pay15]
  simp only [min_third, min_at, least, Finset.univ_unique, Finset.sum_singleton]

/-- The fourth batch's sum is added to these, and all to the accumulator. -/
theorem sum_last (w : FVec Ideal S1024x256 .bf16) (q : FVec Ideal S1024x1 .f32) (a : EReal) (x : Vec Ideal S1x256x1024 .f32)
    (v : Vec Ideal S1x1 .f32) :
    k0_pay23 w q a (k0_pay17 x) (k0_pay18 x) (constant S1024x1024 .f32 0x00000000#32) v (ix2 0 0) = v (ix2 0 0) + (a + least w q x) := by
  pointwise [k0_pay23]
  simp only [min_last, min_at, least, Finset.univ_unique, Finset.sum_singleton]

/-- The accumulator starts at zero. -/
theorem zero_at : k0_pay22 (F := Ideal) (ix2 0 0) = 0 := by
  pointwise [k0_pay22]

/-- The squared norms of the code vectors. -/
theorem norm_at (e : FVec Ideal S1024x256 .f32) (j : Fin 1024) : k0_pay2 e (ix2 j 0) = ∑ c : Fin 256, e (ix2 j c) * e (ix2 j c) := by
  pointwise [k0_pay2]

/-- The doubled code vectors pass through unchanged. -/
theorem doubled_eq (w : FVec Ideal S1024x256 .bf16) : k0_pay1 w = w := by
  funext i
  idx_vars i
  pointwise [k0_pay1]

/-- Every batch of a point computes the same array of chosen code vectors. -/
theorem chosen_first (e : FVec Ideal S1024x256 .f32) (w : FVec Ideal S1024x256 .bf16) (x : Vec Ideal S1x256x1024 .f32) :
    k0_pay7 (k0_pay5 e w x) = k0_pay10 (k0_pay1 w) (k0_pay2 e) x := rfl

theorem chosen_third (w : FVec Ideal S1024x256 .bf16) (q : FVec Ideal S1024x1 .f32) (x : Vec Ideal S1x256x1024 .f32) :
    k0_pay14 w q x = k0_pay10 w q x := rfl

theorem chosen_last (w : FVec Ideal S1024x256 .bf16) (q : FVec Ideal S1024x1 .f32) (x : Vec Ideal S1x256x1024 .f32) :
    k0_pay21 w q (k0_pay17 x) (k0_pay18 x) (constant S1024x1024 .f32 0x00000000#32) = k0_pay10 w q x := rfl

end Cert.Batch

end
-- ==== Proof.Distance.lean ====
/- The squared distance of a latent vector from a code vector, as the kernel and as the reference write it: on real
   vectors both are the sum of the squared differences. -/
module

public import Idealize.ShloMosaic.Lib.Pointwise
public import proofs.«01_k».proof.Proof.Nearest

@[expose] public section

noncomputable section

namespace Cert.Distance

/-- The kernel's form, over the doubled code vector. -/
def kernel (e x : Fin 256 → EReal) : EReal := ((∑ c, x c * x c) + ∑ c, e c * e c) - ∑ c, (e c * (2 : ℝ)) * x c

/-- The reference's form, the inner product doubled. -/
def reference (e x : Fin 256 → EReal) : EReal := ((∑ c, x c * x c) + ∑ c, e c * e c) - (2 : ℝ) * ∑ c, x c * e c

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On reals the kernel's form is the sum of the squared differences. -/
theorem kernel_coe (e x : Fin 256 → ℝ) :
    kernel (fun c => (e c : EReal)) (fun c => (x c : EReal)) = ((∑ c, (e c - x c) * (e c - x c) : ℝ) : EReal) := by
  simp only [kernel, ← EReal.coe_mul, ← coe_sum, ← EReal.coe_add, ← EReal.coe_sub]
  congr 1
  rw [← Finset.sum_add_distrib, ← Finset.sum_sub_distrib]
  exact Finset.sum_congr rfl fun c _ => by ring

/-- On reals so is the reference's. -/
theorem reference_coe (e x : Fin 256 → ℝ) :
    reference (fun c => (e c : EReal)) (fun c => (x c : EReal)) = ((∑ c, (e c - x c) * (e c - x c) : ℝ) : EReal) := by
  simp only [reference, ← EReal.coe_mul, ← coe_sum, ← EReal.coe_add, ← EReal.coe_sub]
  congr 1
  rw [← Finset.sum_add_distrib, Finset.mul_sum, ← Finset.sum_sub_distrib]
  exact Finset.sum_congr rfl fun c _ => by ring

/-- The code vector the kernel chooses for the latent vector `x` among the code vectors `e`. -/
def chosen (e : Fin 1024 → Fin 256 → EReal) (x : Fin 256 → EReal) : Fin 1024 := Nearest.first fun j => kernel (e j) x

end Cert.Distance

end
-- ==== Proof.Block.lean ====
/- What the kernel's arrays hold before the grid runs, and what one grid point leaves in its two output blocks: the code
   vectors chosen for its four batches, and the accumulator raised by the four batches' sums of least distances. -/
module

public import proofs.«01_k».proof.Proof.Gen.KernelIdeal.Frame
public import proofs.«01_k».proof.Proof.Batch
public import proofs.«01_k».proof.Proof.Distance
public import Idealize.ShloMosaic.Lib.Pipeline.ValueKit
public import Idealize.ShloMosaic.Lib.Claim

@[expose] public section

set_option maxRecDepth 16384

noncomputable section

namespace Cert.Block

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ)

/-- The latent array, batch by channel by position. -/
def latent (c : Dev nD) : Vec Ideal S16x256x1024 .f32 :=
  shapeCast S16x256x1024 (m ((c : Thread nD τ).loc main_arg0)) shapeCasts_S16x256x32x32_S16x256x1024

/-- A position's latent vector. -/
def column (c : Dev nD) (b : Fin 16) (n : Fin 1024) : Fin 256 → EReal := fun ch => latent m c (ix3 b ch n)

/-- A code vector. -/
def code (c : Dev nD) (j : Fin 1024) : Fin 256 → EReal :=
  fun ch => (m ((c : Thread nD τ).loc main_arg1) : Vec Ideal S1024x256 .f32) (ix2 j ch)

theorem two_eq : Ideal.ofBits FTy.f32 0x40000000#32 = ((2 : ℝ) : EReal) := by
  simp [Ideal.ofBits, Ideal.ieee, -EReal.coe_mul]; norm_num

/-- The region finds the latent array reshaped. -/
theorem entry_latent (c : Dev nD) : (V m c main_call0_v0 : Vec Ideal S16x256x1024 .f32) = latent m c := by
  simp only [V, V0, hostOps0, List.flatten_cons, List.flatten_nil, List.append_nil, List.cons_append, List.nil_append]
  after_results
  rfl

/-- The region finds the code vectors doubled. -/
theorem entry_doubled (c : Dev nD) (j : Fin 1024) (ch : Fin 256) :
    (V m c main_call0_v3 : Vec Ideal S1024x256 .bf16) (ix2 j ch) = code m c j ch * ((2 : ℝ) : EReal) := by
  have e : (V m c main_call0_v3 : Vec Ideal S1024x256 .bf16) = truncf (F := Ideal) .bf16 (mulf (m ((c : Thread nD τ).loc main_arg1))
      (broadcastInDim S1024x256 ![] bcast_S_S1024x256 (constant (F := Ideal) S_ .f32 0x40000000#32))) bitsLt_bf16_f32 := by
    simp only [V, V0, hostOps0, List.flatten_cons, List.flatten_nil, List.append_nil, List.cons_append, List.nil_append]
    after_results
    rfl
  rw [e]
  pointwise
  rw [two_eq]
  rfl

theorem index0 : ∀ t : Fin grid0.N, win0_0.index t = ![t.val, 0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0, 0] := by decide +kernel
theorem index4 : ∀ t : Fin grid0.N, win0_4.index t = ![0, 0] := by decide +kernel

/-- The number of a point's `i`-th batch. -/
def batchOf (t : Fin cfg0.N) (i : Fin 4) : Fin 16 := ⟨4 * t.val + i.val, by have : t.val < 4 := lt_of_lt_of_eq t.isLt N_0; omega⟩

/-- The latent block of a point holds its four batches. -/
theorem block_latent (c : Dev nD) (t : Fin cfg0.N) (i : Fin 4) (ch : Fin 256) (n : Fin 1024) :
    iblk m c 0 t (ix3 i ch n) = column m c (batchOf t i) n ch := by
  refine Eq.trans (b := V m c main_call0_v0 (ix3 (batchOf t i) ch n)) ?_ (congrFun (entry_latent m c) _)
  blk_ext [iblk, index0 t, batchOf]

/-- The code block of every point holds all code vectors. -/
theorem block_code (c : Dev nD) (t : Fin cfg0.N) (j : Fin 1024) (ch : Fin 256) :
    iblk m c 1 t (ix2 j ch) = code m c j ch := by
  refine Eq.trans (b := V m c main_arg1 (ix2 j ch)) ?_ (congrFun (V_main_arg1 m c) _)
  blk_ext [iblk, index1 t]

/-- The other code block holds all doubled code vectors. -/
theorem block_doubled (c : Dev nD) (t : Fin cfg0.N) (j : Fin 1024) (ch : Fin 256) :
    iblk m c 2 t (ix2 j ch) = code m c j ch * ((2 : ℝ) : EReal) := by
  refine Eq.trans (b := V m c main_call0_v3 (ix2 j ch)) ?_ (entry_doubled m c j ch)
  blk_ext [iblk, index2 t]

/-- One batch of a block of four. -/
def batch (x : Vec Ideal S4x256x1024 .f32) (i : Fin 4) : Vec Ideal S1x256x1024 .f32 := fun j => x (ix3 i (j 1) (j 2))

/-- Loading the slab at offset `i` reads batch `i`. -/
theorem ld_batch (x : S4x256x1024.Idx → Elt Ideal .f32) (i : Fin 4) (off : Fin 3 → ℕ)
    (inb : ∀ a, off a + (![1, 256, 1024] : Fin 3 → ℕ) a ≤ S4x256x1024.size a) (h0 : off 0 = i.val) (h1 : off 1 = 0) (h2 : off 2 = 0) :
    View.ld (Val := Elt Ideal) (e' := .f32) x (Rect.unit (s := S4x256x1024) off ![1, 256, 1024] inb) = batch x i := by
  funext j
  show x _ = x _
  congr 1
  have hj : (j 0 : ℕ) < 1 := (j 0).isLt
  funext a
  apply Fin.ext
  rw [Rect.idx_unit_val]
  match a with
  | 0 => show off 0 + (j 0 : ℕ) = i.val; omega
  | 1 => show off 1 + (j 1 : ℕ) = (j 1 : ℕ); omega
  | 2 => show off 2 + (j 2 : ℕ) = (j 2 : ℕ); omega

/-- An index of the block of four whose slab is `i`. -/
theorem slab_eq (i : Fin 4) (x : S1x256x1024.Idx) (y : S4x256x1024.Idx) (h0 : (y 0 : ℕ) = i.val) (h1 : (y 1 : ℕ) = x 1)
    (h2 : (y 2 : ℕ) = x 2) : y = ix3 i (x 1) (x 2) := by
  funext a
  match a with
  | 0 => exact Fin.ext h0
  | 1 => exact Fin.ext h1
  | 2 => exact Fin.ext h2

/-- An index of a slab has first coordinate zero. -/
theorem unit_eq (x : S1x256x1024.Idx) : x = ix3 0 (x 1) (x 2) := by
  funext a
  match a with
  | 0 => exact Fin.ext (Nat.lt_one_iff.1 (x 0).isLt)
  | 1 => rfl
  | 2 => rfl

/-- The distances a point computes for its `i`-th batch. -/
theorem dist_eq (c : Dev nD) (t : Fin cfg0.N) (i : Fin 4) (n : Fin 1024) :
    Batch.dist (k0_pay1 (iblk m c 2 t)) (k0_pay2 (iblk m c 1 t)) (batch (iblk m c 0 t) i) n
      = fun j => Distance.kernel (code m c j) (column m c (batchOf t i) n) := by
  funext j
  simp only [Batch.dist, Batch.doubled_eq, Batch.norm_at]
  simp only [block_doubled, block_code]
  simp only [batch, Distance.kernel, ← block_latent]
  rfl

/-- The code vectors chosen for a point's four batches are what it leaves in its output block. -/
theorem left_chosen (c : Dev nD) (t : Fin cfg0.N) (y : S4x256x1024.Idx) :
    (outsAt0 m c t.val t.isLt).1 y
      = k0_pay10 (k0_pay1 (iblk m c 2 t)) (k0_pay2 (iblk m c 1 t)) (batch (iblk m c 0 t) (y 0)) (ix3 0 (y 1) (y 2)) := by
  by_cases p : t.val % 4 = 0
  on_goal 1 => rw [outsAt0_A m c t p]
  on_goal 2 => rw [outsAt0_B m c t p]
  all_goals
    frame_out
    rw [Batch.chosen_first, Batch.chosen_third, Batch.chosen_last, ld_batch _ 0 ![0, 0, 0] _ rfl rfl rfl, ld_batch _ 1 ![1, 0, 0] _ rfl rfl rfl,
      ld_batch _ 2 ![2, 0, 0] _ rfl rfl rfl, ld_batch _ 3 ![3, 0, 0] _ rfl rfl rfl]
    canon_tiles x h
    all_goals
      have e0 : (x 0 : ℕ) = 0 := by omega
      rw [e0] at h0
      have ey : y = ix3 ⟨_, h0 ▸ (y 0).isLt⟩ (x 1) (x 2) := slab_eq _ x y h0 h1 h2
      rw [ey]
      exact congrArg _ (unit_eq x)

/-- The sum of the least distances of a point's `i`-th batch. -/
def least (c : Dev nD) (t : Fin cfg0.N) (i : Fin 4) : EReal :=
  Batch.least (k0_pay1 (iblk m c 2 t)) (k0_pay2 (iblk m c 1 t)) (batch (iblk m c 0 t) i)

/-- The first point leaves its own sums in the accumulator. -/
theorem left_first (c : Dev nD) (t : Fin cfg0.N) (p : t.val % 4 = 0) :
    (outsAt0 m c t.val t.isLt).2 (ix2 0 0) = 0 + (((least m c t 0 + least m c t 1) + least m c t 2) + least m c t 3) := by
  rw [outsAt0_A m c t p]
  frame_out
  rw [ld_batch _ 0 ![0, 0, 0] _ rfl rfl rfl, ld_batch _ 1 ![1, 0, 0] _ rfl rfl rfl, ld_batch _ 2 ![2, 0, 0] _ rfl rfl rfl, ld_batch _ 3 ![3, 0, 0] _ rfl rfl rfl,
    Batch.sum_last, Batch.sum_third, Batch.sum_second, Batch.sum_first, Batch.zero_at]
  rfl

/-- A later point adds its sums to what the point before left. -/
theorem left_later (c : Dev nD) (t : Fin cfg0.N) (p : ¬t.val % 4 = 0) :
    (outsAt0 m c t.val t.isLt).2 (ix2 0 0) = (outsAt0 m c (t.val - 1) (Nat.lt_of_le_of_lt (Nat.sub_le _ _) t.isLt)).2 (ix2 0 0)
      + (((least m c t 0 + least m c t 1) + least m c t 2) + least m c t 3) := by
  rw [outsAt0_B m c t p]
  frame_out
  rw [ld_batch _ 0 ![0, 0, 0] _ rfl rfl rfl, ld_batch _ 1 ![1, 0, 0] _ rfl rfl rfl, ld_batch _ 2 ![2, 0, 0] _ rfl rfl rfl, ld_batch _ 3 ![3, 0, 0] _ rfl rfl rfl,
    Batch.sum_last, Batch.sum_third, Batch.sum_second, Batch.sum_first]
  rfl

end Cert.Block

end
-- ==== Proof.Arrays.lean ====
/- The kernel's two output arrays after the whole grid: the chosen code vectors at every position, and in the accumulator
   the sum over all positions of the least distances. -/
module

public import proofs.«01_k».proof.Proof.Block

@[expose] public section

set_option maxRecDepth 16384

noncomputable section

namespace Cert.Arrays

open Cert.KernelIdeal Cert.KernelIdeal.Gen Idealize.ShloMosaic Idealize.ShloMosaic.TcCoe Idealize.SL.Sem
open Idealize.ShloMosaic.Pointwise Cert.Block

variable (m : (ℓ : Loc nD τ sig) → Buf (Elt Ideal) ℓ)

/-- The index of the code vector chosen at position `n` of batch `b`. -/
def pick (c : Dev nD) (b : Fin 16) (n : Fin 1024) : Fin 1024 := Distance.chosen (code m c) (column m c b n)

/-- The chosen code vectors: each doubled before the grid and halved by it. -/
def quantised (c : Dev nD) : Vec Ideal S16x256x1024 .f32 := fun i =>
  code m c (pick m c (i 0) (i 2)) (i 1) * ((2 : ℝ) : EReal) * ((1 / 2 : ℝ) : EReal)

/-- The least distance at position `n` of batch `b`. -/
def leastAt (c : Dev nD) (b : Fin 16) (n : Fin 1024) : EReal := Distance.kernel (code m c (pick m c b n)) (column m c b n)

/-- The accumulator's final value. -/
def total (c : Dev nD) : EReal := 0 + ∑ b : Fin 16, ∑ n : Fin 1024, leastAt m c b n

/-- What a point leaves in its output block is its batches' chosen code vectors. -/
theorem left_quantised (c : Dev nD) (t : Fin cfg0.N) (y : S4x256x1024.Idx) :
    (outsAt0 m c t.val t.isLt).1 y = quantised m c (ix3 (batchOf t (y 0)) (y 1) (y 2)) := by
  idx_vars y
  refine (left_chosen m c t (ix3 y0 y1 y2)).trans ?_
  show k0_pay10 _ _ (batch (iblk m c 0 t) y0) (ix3 0 y1 y2) = _
  rw [Batch.chosen_at, dist_eq, Batch.doubled_eq]
  exact congrArg (· * ((1 / 2 : ℝ) : EReal)) (block_doubled m c t _ _)

/-- The first output array is the chosen code vectors. -/
theorem final_quantised (c : Dev nD) : (dats m 0 c).arrAt 3 cfg0.N = quantised m c := by
  refine (dats m 0 c).arrAt_eq_of_covers 3 _ (by decide +kernel) fun t hf y => ?_
  blk_simp
  rw [after0_3]
  refine (left_quantised m c t y).trans (congrArg (quantised m c) ?_)
  blk_ext [index3 t, batchOf]

/-- The sums a point adds to the accumulator. -/
def added (c : Dev nD) (t : Fin cfg0.N) : EReal := ∑ i : Fin 4, ∑ n : Fin 1024, leastAt m c (batchOf t i) n

theorem added_eq (c : Dev nD) (t : Fin cfg0.N) :
    ((least m c t 0 + least m c t 1) + least m c t 2) + least m c t 3 = added m c t := by
  have h : ∀ i, least m c t i = ∑ n : Fin 1024, leastAt m c (batchOf t i) n := fun i => by
    simp only [least, Batch.least, dist_eq]
    rfl
  simp only [h, added, Fin.sum_univ_four]

/-- After the last point the accumulator holds every point's sums. -/
theorem left_last (c : Dev nD) (t : Fin cfg0.N) (h : t.val % 4 = 3) : (outsAt0 m c t.val t.isLt).2 (ix2 0 0) = total m c := by
  rw [Pipeline.eq_sum_fin_of_reset_step_last (fun n hn => (outsAt0 m c n hn).2 (ix2 0 0)) 4 0 (added m c)
    (fun t p => (left_first m c t p).trans (congrArg (0 + ·) (added_eq m c t)))
    (fun t p => (left_later m c t p).trans (congrArg (_ + ·) (added_eq m c t)))
    (le_of_eq N_0) t ((by have : t.val < 4 := lt_of_lt_of_eq t.isLt N_0; omega : t.val + 1 = 4).trans N_0.symm)]
  refine congrArg (0 + ·) ?_
  refine Eq.trans ?_ (Fin.sum_mul_add_fin 4 4 fun b : Fin 16 => ∑ n : Fin 1024, leastAt m c b n)
  refine Finset.sum_congr rfl fun s _ => Finset.sum_congr rfl fun i _ => ?_
  have e : batchOf s i = ⟨s.val * 4 + i.val, by have : s.val < 4 := s.isLt; omega⟩ := Fin.ext (by simp only [batchOf]; omega)
  rw [e]

/-- The second output array is the accumulator's final value. -/
theorem final_total (c : Dev nD) : (dats m 0 c).arrAt 4 cfg0.N = fun _ => total m c := by
  refine (dats m 0 c).arrAt_eq_of_covers 4 _ (by decide +kernel) fun t hf y => ?_
  blk_simp
  rw [after0_4]
  have e : y = ix2 0 0 := by
    funext a
    match a with
    | 0 => exact Fin.ext (Nat.lt_one_iff.1 (y 0).isLt)
    | 1 => exact Fin.ext (Nat.lt_one_iff.1 (y 1).isLt)
  rw [e]
  exact left_last m c t ((flush0_4 t).1 hf)

end Cert.Arrays

end
-- ==== Proof.KernelRun.lean ====
/- The kernel's run: the first result is the array of chosen code vectors in the latent array's layout, the second is five
   quarters of the accumulator divided by the number of latent entries, and the arguments are unchanged. -/
module

public import proofs.«01_k».proof.Proof.Arrays

@[expose] public section

set_option maxRecDepth 16384

noncomputable section

namespace Cert.KernelRun

open Cert.KernelIdeal Cert.KernelIdeal.Gen Idealize.ShloMosaic Idealize.ShloMosaic.TcCoe Idealize.SL.Sem
open Cert.Arrays

variable (m : (ℓ : Loc nD τ sig) → Buf (Elt Ideal) ℓ) (ρ : Dev nD → PrngReg)

/-- The first result: the chosen code vectors reshaped. -/
def output (c : Dev nD) : FVec Ideal S16x256x32x32 .f32 :=
  shapeCast S16x256x32x32 (quantised m c) shapeCasts_S16x256x1024_S16x256x32x32

/-- The second result: five quarters of the accumulator over the number of entries. -/
def loss (c : Dev nD) : FVec Ideal S_ .f32 :=
  Host.divf (mulf (constant S_ .f32 0x3FA00000#32) (shapeCast S_ (fun _ => total m c) shapeCasts_S1x1_S_))
    (constant S_ .f32 0x4A800000#32)

/-- The operations after the grid leave the first output array reshaped. -/
theorem tail_output (c : Dev nD) :
    (Pipeline.afterTail₀ cfgs (dats m) 0 (V0 m) [hostOps1] c main_v0_0 : FVec Ideal S16x256x32x32 .f32) = output m c := by
  have h : Pipeline.withArrays spec0 c (V0 m c) (fun w => (dats m 0 c).arrAt w cfg0.N) (Proc.devRef .tc main_call0_v4_0)
      = quantised m c := (Pipeline.withArrays_arr spec0 launch0.win.arr_inj c (V0 m c) _ 3).trans (final_quantised m c)
  unfold Pipeline.afterTail₀
  simp only [hostOps1, List.flatten_cons, List.flatten_nil, List.append_nil, List.cons_append, List.nil_append]
  after_results
  rw [h]
  rfl

/-- The operations after the grid leave the scaled accumulator. -/
theorem tail_loss (c : Dev nD) :
    (Pipeline.afterTail₀ cfgs (dats m) 0 (V0 m) [hostOps1] c main_v0_1 : FVec Ideal S_ .f32) = loss m c := by
  have h : Pipeline.withArrays spec0 c (V0 m c) (fun w => (dats m 0 c).arrAt w cfg0.N) (Proc.devRef .tc main_call0_v4_1)
      = fun _ => total m c := (Pipeline.withArrays_arr spec0 launch0.win.arr_inj c (V0 m c) _ 4).trans (final_total m c)
  unfold Pipeline.afterTail₀
  simp only [hostOps1, List.flatten_cons, List.flatten_nil, List.append_nil, List.cons_append, List.nil_append]
  after_results
  rw [h]
  rfl

/-- The kernel's run. -/
theorem run : θ_run defs (onTc (τ := τ) (main (F := Ideal))) ⟨m, fun _ => 0, ρ⟩ fun r => ∀ c : Dev nD,
      r.2.mem ((c : Thread nD τ).loc main_v0_0) = output m c
      ∧ r.2.mem ((c : Thread nD τ).loc main_v0_1) = loss m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0_0 (Pipeline.mem_restRefs_of main_v0_0 (by decide) (by decide))).trans (tail_output m c),
      ((h c).2 main_v0_1 (Pipeline.mem_restRefs_of main_v0_1 (by decide) (by decide))).trans (tail_loss m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelRun

end
-- ==== Proof.ArgMin.lean ====
/- The reference's arg-min: a fold of the (value, index) pairs of one row under the lexicographic minimum, which is the
   first index at which the row is least. -/
module

public import proofs.«01_k».proof.Proof.RefTerm
public import proofs.«01_k».proof.Proof.Nearest

@[expose] public section

noncomputable section

namespace Cert.ArgMin

open Cert.ReferenceIdeal Cert.ReferenceIdeal.Gen Idealize.ShloMosaic Idealize.ShloMosaic.Pointwise

/-- `p` comes no later than `q` in the lexicographic order of pairs. -/
def Le (p q : EReal × BitVec 32) : Prop := p.1 < q.1 ∨ p.1 = q.1 ∧ p.2.toInt ≤ q.2.toInt

/-- The reducer at the extended reals. -/
theorem reducer_eq (a b : EReal × BitVec 32) :
    (reducer_argmin_f32_i32 (F := Ideal) a b : EReal × BitVec 32) = if a.1 < b.1 ∨ a.1 = b.1 ∧ a.2.toInt < b.2.toInt then a else b := by
  obtain ⟨v, k⟩ := a
  obtain ⟨w, l⟩ := b
  simp only [reducer_argmin_f32_i32]
  rcases lt_trichotomy v w with h | h | h
  · simp [Ideal.cmpf_def, Ideal.cmp, h, h.ne, Scalar.select, IntOp.ori, IntOp.andi]
  · subst h
    by_cases hk : k.toInt < l.toInt
    · simp [Ideal.cmpf_def, Ideal.cmp, Scalar.select, IntOp.ori, IntOp.andi, IntOp.cmpi, BitVec.slt, hk]
    · simp [Ideal.cmpf_def, Ideal.cmp, Scalar.select, IntOp.ori, IntOp.andi, IntOp.cmpi, BitVec.slt, hk]
  · simp [Ideal.cmpf_def, Ideal.cmp, h.not_gt, h.ne', Scalar.select, IntOp.ori, IntOp.andi]

/-- Folding the reducer over a list reaches the pair that comes no later than any pair of the list. -/
theorem foldl_reducer (p : EReal × BitVec 32) (L : List (EReal × BitVec 32)) (a : EReal × BitVec 32)
    (hmem : a = p ∨ p ∈ L) (ha : Le p a) (hL : ∀ q ∈ L, Le p q) :
    L.foldl (reducer_argmin_f32_i32 (F := Ideal)) a = p := by
  induction L generalizing a with
  | nil => simpa using hmem
  | cons q L ih =>
    have hq : Le p q := hL q (by simp)
    rw [List.foldl_cons]
    refine ih _ ?_ ?_ fun r hr => hL r (by simp [hr])
    · rw [reducer_eq]
      rcases hmem with rfl | hp
      · rcases hq with h | ⟨h, hk⟩
        · exact .inl (if_pos (.inl h))
        · by_cases hlt : a.2.toInt < q.2.toInt
          · exact .inl (if_pos (.inr ⟨h, hlt⟩))
          · refine .inl ?_
            have : a = q := Prod.ext h (BitVec.eq_of_toInt_eq (le_antisymm hk (not_lt.1 hlt)))
            rw [this]
            exact ite_self _
      · rcases List.mem_cons.1 hp with rfl | hp
        · refine .inl (if_neg ?_)
          rintro (h | ⟨h, hk⟩)
          · rcases ha with h' | ⟨h', _⟩
            · exact absurd h h'.not_gt
            · exact absurd h h'.not_gt
          · rcases ha with h' | ⟨_, h'⟩
            · exact absurd h h'.ne'
            · omega
        · exact .inr hp
    · rw [reducer_eq]
      split <;> assumption

/-- A pair that occurs in the row at `j` and comes no later than any pair there, or than the initial pair, is what the
    arg-min returns. -/
theorem argReduce_eq {s t u : Shape} {axes : List (Fin s.rank)} (x : FVec Ideal s .f32) (y : IVec s 32)
    (ix : FVec Ideal u .f32) (iy : IVec u 32) (h : s.ReducesTo axes t) (hu : 0 < u.numel) (j : t.Idx) (i : s.Idx)
    (hi : h.drop i = j) (h0 : Le (x i, y i) (ix (Shape.Idx.first hu), iy (Shape.Idx.first hu)))
    (hle : ∀ i', h.drop i' = j → Le (x i, y i) (x i', y i')) :
    Host.argReduce (reducer_argmin_f32_i32 (F := Ideal)) x y ix iy h hu j = (x i, y i) := by
  rw [Ideal.argReduce_eq_reduce2, Host.reduce2_eq_foldl_fiber]
  refine foldl_reducer (x i, y i) _ _ (.inr ?_) h0 fun q hq => ?_
  · simp only [Host.argReduceFiber, List.mem_map, List.mem_filter, List.mem_finRange, true_and, decide_eq_true_eq]
    exact ⟨s.rowMajor i, by simpa using hi, by simp⟩
  · simp only [Host.argReduceFiber, List.mem_map, List.mem_filter, List.mem_finRange, true_and, decide_eq_true_eq] at hq
    obtain ⟨r, hr, rfl⟩ := hq
    exact hle _ hr

/-- The row of an index of the distance array is given by its first two coordinates. -/
theorem drop_eq (b : Fin 16) (n k : Fin 1024) : reducesTo_S16x1024x1024_S16x1024_d2.drop (ix3 b n k) = ix2 b n := by
  funext a
  match a with
  | 0 => exact Fin.ext (reducesTo_S16x1024x1024_S16x1024_d2.drop_apply_val_of_eq _ 0 0 (by decide) (by decide))
  | 1 => exact Fin.ext (reducesTo_S16x1024x1024_S16x1024_d2.drop_apply_val_of_eq _ 1 1 (by decide) (by decide))

/-- An index of the distance array in the row given by `ix2 b n`. -/
theorem of_drop_eq (b : Fin 16) (n : Fin 1024) (i : S16x1024x1024.Idx)
    (h : reducesTo_S16x1024x1024_S16x1024_d2.drop i = ix2 b n) : ∃ k : Fin 1024, i = ix3 b n k := by
  idx_vars i
  rw [drop_eq] at h
  exact ⟨i2, by rw [show i0 = b from congrFun h 0, show i1 = n from congrFun h 1]⟩

theorem iota_at (b : Fin 16) (n k : Fin 1024) : iotaInDim S16x1024x1024 32 2 (ix3 b n k) = BitVec.ofNat 32 k.val := by
  pointwise

/-- The index the reference returns is the second component of its fold of pairs. -/
theorem argmin_of (d : FVec Ideal S16x1024x1024 .f32) (j : S16x1024.Idx) (p : EReal × BitVec 32)
    (h : Host.argReduce (reducer_argmin_f32_i32 (F := Ideal)) d (iotaInDim S16x1024x1024 32 2) (constant S_ .f32 0x7F800000#32)
      (constantI S_ 32 0#32) reducesTo_S16x1024x1024_S16x1024_d2 h_S_ j = p) : RefTerm.argmin d j = p.2 := by
  have e : RefTerm.argmin d = fun j => (Host.argReduce (reducer_argmin_f32_i32 (F := Ideal)) d (iotaInDim S16x1024x1024 32 2)
    (constant S_ .f32 0x7F800000#32) (constantI S_ 32 0#32) reducesTo_S16x1024x1024_S16x1024_d2 h_S_ j).2 := rfl
  rw [e]
  show (Host.argReduce (reducer_argmin_f32_i32 (F := Ideal)) d (iotaInDim S16x1024x1024 32 2)
    (constant S_ .f32 0x7F800000#32) (constantI S_ 32 0#32) reducesTo_S16x1024x1024_S16x1024_d2 h_S_ j).2 = p.2
  rw [h]

/-- The initial value is above every extended real. -/
theorem top_eq : Ideal.ofBits FTy.f32 0x7F800000#32 = ⊤ := by
  simp [Ideal.ofBits, Ideal.ieee]

/-- The reference's arg-min of row `n` of batch `b` is the first index at which the row is least. -/
theorem argmin_at (d : FVec Ideal S16x1024x1024 .f32) (b : Fin 16) (n : Fin 1024) :
    RefTerm.argmin d (ix2 b n) = BitVec.ofNat 32 (Nearest.first fun k => d (ix3 b n k)).val := by
  have key := Nearest.first_le fun k => d (ix3 b n k)
  have key' := Nearest.first_first fun k => d (ix3 b n k)
  generalize (Nearest.first fun k => d (ix3 b n k)) = k at key key' ⊢
  have hle : ∀ j, Le (d (ix3 b n k), BitVec.ofNat 32 k.val) (d (ix3 b n j), BitVec.ofNat 32 j.val) := fun j => by
    rcases lt_or_eq_of_le (key j) with h | h
    · exact .inl h
    · refine .inr ⟨h, ?_⟩
      show (BitVec.ofNat 32 k.val).toInt ≤ (BitVec.ofNat 32 j.val).toInt
      rw [Nearest.toInt_index, Nearest.toInt_index]
      exact_mod_cast key' j h.symm
  rw [argmin_of d (ix2 b n) _ (argReduce_eq _ _ _ _ _ _ _ (ix3 b n k) (drop_eq b n k) ?_ ?_)]
  · exact iota_at b n k
  · rw [iota_at]
    show Le _ (Ideal.ofBits FTy.f32 0x7F800000#32, 0#32)
    rw [top_eq]
    rcases lt_or_eq_of_le (le_top (a := d (ix3 b n k))) with h | h
    · exact .inl h
    · refine .inr ⟨h, ?_⟩
      have : k ≤ 0 := key' 0 (le_antisymm (h ▸ le_top) (key 0))
      show (BitVec.ofNat 32 k.val).toInt ≤ (0#32).toInt
      rw [Nearest.toInt_index]
      simpa using this
  · intro i hi
    obtain ⟨j, rfl⟩ := of_drop_eq b n i hi
    rw [iota_at, iota_at]
    exact hle j

end Cert.ArgMin

end
-- ==== Proof.RefDist.lean ====
/- The reference's squared distances, and the index of the least one, read at one latent vector. -/
module

public import Idealize.ShloMosaic.Lib.Pointwise
public import proofs.«01_k».proof.Proof.ArgMin
public import proofs.«01_k».proof.Proof.Distance

@[expose] public section

set_option maxRecDepth 16384

noncomputable section

namespace Cert.RefDist

open Cert.ReferenceIdeal Cert.ReferenceIdeal.Gen Idealize.ShloMosaic Idealize.ShloMosaic.Pointwise

/-- The latent array with its two grid axes as one. -/
def latent (x : FVec Ideal S16x256x32x32 .f32) : FVec Ideal S16x256x1024 .f32 :=
  shapeCast S16x256x1024 x shapeCasts_S16x256x32x32_S16x256x1024

/-- The latent vector at position `n` of batch `b`. -/
def column (x : FVec Ideal S16x256x32x32 .f32) (b : Fin 16) (n : Fin 1024) : Fin 256 → EReal := fun c => latent x (ix3 b c n)

/-- Code vector `j`. -/
def code (e : FVec Ideal S1024x256 .f32) (j : Fin 1024) : Fin 256 → EReal := fun c => e (ix2 j c)

/-- The factor of the inner product. -/
theorem two_eq : Ideal.ofBits FTy.f32 1073741824#32 = ((2 : ℝ) : EReal) := by
  simp [Ideal.ofBits, Ideal.ieee, -EReal.coe_mul]; norm_num

/-- A transposed array at one place. -/
theorem transposed_at (y : FVec Ideal S16x256x1024 .f32) (b : Fin 16) (n : Fin 1024) (c : Fin 256) :
    transpose S16x1024x256 [0, 2, 1] y transposes_S16x256x1024_S16x1024x256_0_2_1 (ix3 b n c) = y (ix3 b c n) := by
  pointwise []

/-- The latent rows. -/
theorem rows_at (x : FVec Ideal S16x256x32x32 .f32) (b : Fin 16) (n : Fin 1024) (c : Fin 256) :
    RefTerm.rows x (ix3 b n c) = column x b n c := transposed_at (latent x) b n c

/-- The squared distance of one latent vector from one code vector. -/
theorem dist_at (x : FVec Ideal S16x256x32x32 .f32) (e : FVec Ideal S1024x256 .f32) (b : Fin 16) (n j : Fin 1024) :
    RefTerm.dist x e (ix3 b n j) = Distance.reference (code e j) (column x b n) := by
  pointwise [RefTerm.dist, RefTerm.rowSq, RefTerm.codeSq, RefTerm.dots, Distance.reference]
  simp only [rows_at, two_eq, code]

/-- The index of the least distance. -/
theorem argmin_at (x : FVec Ideal S16x256x32x32 .f32) (e : FVec Ideal S1024x256 .f32) (b : Fin 16) (n : Fin 1024) :
    RefTerm.argmin (RefTerm.dist x e) (ix2 b n)
      = BitVec.ofNat 32 (Nearest.first fun j => Distance.reference (code e j) (column x b n)).val := by
  rw [ArgMin.argmin_at]
  simp only [dist_at]

end Cert.RefDist

end
-- ==== Proof.RefTake.lean ====
/- The code vectors the reference takes: where every index is in range, row `k` of the codes at every place whose index
   is `k`. -/
module

public import Idealize.ShloMosaic.Lib.Pointwise
public import Idealize.ShloMosaic.Lib.ReduceAll
public import proofs.«01_k».proof.Proof.RefTerm

@[expose] public section

set_option maxRecDepth 16384

noncomputable section

namespace Cert.RefTake

open Cert.ReferenceIdeal Cert.ReferenceIdeal.Gen Idealize.ShloMosaic Idealize.ShloMosaic.Pointwise

/-- An index of a code vector, read signed, is itself. -/
theorem toInt_word (k : Fin 1024) : (BitVec.ofNat 32 k.val).toInt = k.val := by
  have := k.isLt
  rw [BitVec.toInt_eq_toNat_cond, BitVec.toNat_ofNat]
  omega

/-- An index that is not below zero is left as it is. -/
theorem wrapped_at (K : IVec S16x1024 32) (b : Fin 16) (n : Fin 1024) (k : Fin 1024) (h : K (ix2 b n) = BitVec.ofNat 32 k.val) :
    RefTerm.wrapped K (ix3 b n 0) = BitVec.ofNat 32 k.val := by
  pointwise [RefTerm.wrapped]
  rw [h]
  have : (BitVec.ofNat 32 k.val).slt 0#32 = false := by
    rw [BitVec.slt, toInt_word]; simp
  simp [IntOp.cmpi, this, Scalar.select]

/-- Every index in range. -/
theorem inRange_at (w : IVec S16x1024x1 32) (k : Fin 16 → Fin 1024 → Fin 1024) (h : ∀ b n, w (ix3 b n 0) = BitVec.ofNat 32 (k b n).val)
    (b : Fin 16) (n : Fin 1024) : RefTerm.inRange w (ix2 b n) = 1#1 := by
  refine Host.reduce_andi_one _ _ _ _ _ rfl fun i => ?_
  idx_vars i
  obtain rfl : i2 = 0 := Subsingleton.elim _ _
  pointwise []
  rw [h]
  have h0 : (BitVec.sle 0#32 (BitVec.ofNat 32 (k i0 i1).val)) = true := by
    rw [BitVec.sle, toInt_word]; simp
  have h1 : (BitVec.sle (BitVec.ofNat 32 (k i0 i1).val) 1023#32) = true := by
    have := (k i0 i1).isLt
    rw [BitVec.sle, toInt_word]; simp; omega
  simp [IntOp.cmpi, IntOp.andi, h0, h1]

/-- A gather of one code vector. -/
theorem gather_at (e : FVec Ideal S1024x256 .f32) (w : IVec S16x1024x1 32) (b : Fin 16) (n k : Fin 1024) (c : Fin 256)
    (h : w (ix3 b n 0) = BitVec.ofNat 32 k.val) :
    Host.gather gather_S1024x256_S16x1024x1_S16x1024x256_2_0_n_n_0_2_1256 e w (ix3 b n c) = e (ix2 k c) := by
  have hs : gather_S1024x256_S16x1024x1_S16x1024x256_2_0_n_n_0_2_1256.siIdx (ix3 b n c) ⟨0, by decide⟩ = ix3 b n (0 : Fin 1) := by
    funext a
    match a with
    | ⟨0, _⟩ => rfl
    | ⟨1, _⟩ => rfl
    | ⟨2, _⟩ => rfl
  unfold Host.gather
  refine congrArg e (funext fun a => Fin.ext ?_)
  match a with
  | ⟨0, _⟩ =>
    show min (w (gather_S1024x256_S16x1024x1_S16x1024x256_2_0_n_n_0_2_1256.siIdx (ix3 b n c) ⟨0, by decide⟩)).toInt.toNat (1024 - 1) + 0 + 0 = k.val
    have := k.isLt
    rw [hs, h, toInt_word]
    omega
  | ⟨1, _⟩ =>
    show 0 + 0 + c.val = c.val
    omega

/-- The code vectors taken at indices in range. -/
theorem take_at (e : FVec Ideal S1024x256 .f32) (K : IVec S16x1024 32) (k : Fin 16 → Fin 1024 → Fin 1024)
    (h : ∀ b n, K (ix2 b n) = BitVec.ofNat 32 (k b n).val) (b : Fin 16) (n : Fin 1024) (c : Fin 256) :
    RefTerm.take e K (ix3 b n c) = e (ix2 (k b n) c) := by
  have hw : ∀ b n, RefTerm.wrapped K (ix3 b n 0) = BitVec.ofNat 32 (k b n).val := fun b n => wrapped_at K b n _ (h b n)
  pointwise [RefTerm.take]
  rw [inRange_at _ k hw, gather_at e _ b n (k b n) c (hw b n)]
  simp [Scalar.select]

end Cert.RefTake

end
-- ==== Proof.RefValue.lean ====
/- What the reference's code vectors, first result and loss are, over the latent array with its grid axes as one. -/
module

public import proofs.«01_k».proof.Proof.RefDist
public import proofs.«01_k».proof.Proof.RefTake

@[expose] public section

set_option maxRecDepth 16384

noncomputable section

namespace Cert.RefValue

open Cert.ReferenceIdeal Cert.ReferenceIdeal.Gen Idealize.ShloMosaic Idealize.ShloMosaic.Pointwise
open Cert.RefDist

variable (x : FVec Ideal S16x256x32x32 .f32) (e : FVec Ideal S1024x256 .f32)

/-- The code vector the reference chooses at position `n` of batch `b`. -/
def pick (b : Fin 16) (n : Fin 1024) : Fin 1024 := Nearest.first fun j => Distance.reference (code e j) (column x b n)

/-- The chosen code vectors in the kernel's layout. -/
def quantised : FVec Ideal S16x256x1024 .f32 := fun i => code e (pick x e (i 0) (i 2)) (i 1)

/-- An array of rows transposed back, at one place. -/
theorem transposed_at (y : FVec Ideal S16x1024x256 .f32) (b : Fin 16) (c : Fin 256) (n : Fin 1024) :
    transpose S16x256x1024 [0, 2, 1] y transposes_S16x1024x256_S16x256x1024_0_2_1 (ix3 b c n) = y (ix3 b n c) := by
  pointwise []

/-- The chosen code vectors. -/
theorem chosen_eq : RefTerm.chosen x e = shapeCast S16x256x32x32 (quantised x e) shapeCasts_S16x256x1024_S16x256x32x32 := by
  refine congrArg (fun y => shapeCast S16x256x32x32 y shapeCasts_S16x256x1024_S16x256x32x32) (funext fun i => ?_)
  idx_vars i
  rw [transposed_at]
  exact RefTake.take_at e _ (pick x e) (fun b n => argmin_at x e b n) i0 i2 i1

/-- The latent array is its own reshaping there and back. -/
theorem latent_back : shapeCast S16x256x32x32 (latent x) shapeCasts_S16x256x1024_S16x256x32x32 = x :=
  shapeCast_shapeCast x _ _

/-- A sum over a reshaped array's indices. -/
theorem sum_reshaped (f : S16x256x1024.Idx → EReal) :
    ∑ i, shapeCast S16x256x32x32 f shapeCasts_S16x256x1024_S16x256x32x32 i
      = ∑ b : Fin 16, ∑ c : Fin 256, ∑ n : Fin 1024, f (ix3 b c n) :=
  (Equiv.sum_comp (Shape.reshapeEquiv shapeCasts_S16x256x1024_S16x256x32x32) f).trans (sum_idx3 f)

/-- The number of latent entries. -/
theorem count_eq : Ideal.ofBits FTy.f32 1249902592#32 = ((4194304 : ℝ) : EReal) := by
  simp [Ideal.ofBits, Ideal.ieee, -EReal.coe_mul]; norm_num

/-- A quarter. -/
theorem quarter_eq : Ideal.ofBits FTy.f32 1048576000#32 = ((1 / 4 : ℝ) : EReal) := by
  simp [Ideal.ofBits, Ideal.ieee, -EReal.coe_mul]; norm_num

/-- A quotient of reals by a real that is not zero. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The mean squared difference of two reshaped arrays of reals. -/
theorem meanSq_coe (q l : S16x256x1024.Idx → ℝ) (j : S_.Idx) :
    RefTerm.meanSq (F := Ideal) (shapeCast S16x256x32x32 (fun i => ((q i : ℝ) : EReal)) shapeCasts_S16x256x1024_S16x256x32x32)
        (shapeCast S16x256x32x32 (fun i => ((l i : ℝ) : EReal)) shapeCasts_S16x256x1024_S16x256x32x32) j
      = (((∑ b : Fin 16, ∑ c : Fin 256, ∑ n : Fin 1024, (q (ix3 b c n) - l (ix3 b c n)) * (q (ix3 b c n) - l (ix3 b c n))) / 4194304 : ℝ) : EReal) := by
  have hsum : Host.reduceAdd (F := Ideal) (mulf (subf (shapeCast S16x256x32x32 (fun i => ((q i : ℝ) : EReal)) shapeCasts_S16x256x1024_S16x256x32x32)
        (shapeCast S16x256x32x32 (fun i => ((l i : ℝ) : EReal)) shapeCasts_S16x256x1024_S16x256x32x32))
        (subf (shapeCast S16x256x32x32 (fun i => ((q i : ℝ) : EReal)) shapeCasts_S16x256x1024_S16x256x32x32)
        (shapeCast S16x256x32x32 (fun i => ((l i : ℝ) : EReal)) shapeCasts_S16x256x1024_S16x256x32x32)))
        (constant (F := Ideal) S_ .f32 0x00000000#32) reducesTo_S16x256x32x32_S_d0_1_2_3 h_S_ j
      = ((∑ b : Fin 16, ∑ c : Fin 256, ∑ n : Fin 1024, (q (ix3 b c n) - l (ix3 b c n)) * (q (ix3 b c n) - l (ix3 b c n)) : ℝ) : EReal) := by
    refine (Ideal.hostReduceAdd_total reducesTo_S16x256x32x32_S_d0_1_2_3 (fun b => b.elim0) _ _ j).trans ?_
    refine (congrArg₂ (· + ·) Ideal.ofBits_zero_f32 (sum_reshaped fun i => ((q i : EReal) - l i) * ((q i : EReal) - l i))).trans ?_
    simp only [zero_add, ← EReal.coe_sub, ← EReal.coe_mul, ← Distance.coe_sum]
  show Ideal.div _ (Ideal.ofBits FTy.f32 1249902592#32) = _
  rw [count_eq]
  refine (congrArg (fun s => Ideal.div s ((4194304 : ℝ) : EReal)) hsum).trans (div_coe _ _ (by norm_num))

/-- The loss of two reshaped arrays of reals: five quarters of the mean squared difference. -/
theorem loss_coe (q l : S16x256x1024.Idx → ℝ) (j : S_.Idx) :
    RefTerm.loss (F := Ideal) (shapeCast S16x256x32x32 (fun i => ((q i : ℝ) : EReal)) shapeCasts_S16x256x1024_S16x256x32x32)
        (shapeCast S16x256x32x32 (fun i => ((l i : ℝ) : EReal)) shapeCasts_S16x256x1024_S16x256x32x32) j
      = ((5 / 4 * (∑ b : Fin 16, ∑ c : Fin 256, ∑ n : Fin 1024, (q (ix3 b c n) - l (ix3 b c n)) * (q (ix3 b c n) - l (ix3 b c n))) / 4194304 : ℝ) : EReal) := by
  show RefTerm.meanSq (F := Ideal) _ _ j * Ideal.ofBits FTy.f32 1048576000#32 + RefTerm.meanSq (F := Ideal) _ _ j = _
  rw [meanSq_coe, quarter_eq, ← EReal.coe_mul, ← EReal.coe_add]
  congr 1
  ring

/-- The first result of reals: the chosen code vectors. -/
theorem output_coe (q l : S16x256x32x32.Idx → ℝ) :
    RefTerm.output (F := Ideal) (fun i => ((q i : ℝ) : EReal)) (fun i => ((l i : ℝ) : EReal)) = fun i => ((q i : ℝ) : EReal) := by
  funext i
  show (l i : EReal) + ((q i : EReal) - l i) = q i
  rw [← EReal.coe_sub, ← EReal.coe_add]
  congr 1
  ring

end Cert.RefValue

end
-- ==== Proof.Equation.lean ====
/- The two programs' results are equal where every entry of the arguments is a real: both choose the nearest code vector,
   and both losses are five quarters of the mean squared difference. -/
module

public import proofs.«01_k».proof.Proof.KernelRun
public import proofs.«01_k».proof.Proof.RefValue

@[expose] public section

set_option maxRecDepth 16384

noncomputable section

namespace Cert.Equation

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (c : Dev nD)
variable (l : S16x256x32x32.Idx → ℝ) (w : S1024x256.Idx → ℝ)
variable (hl : (m ((c : Thread nD τ).loc main_arg0) : FVec Ideal S16x256x32x32 .f32) = fun i => ((l i : ℝ) : EReal))
variable (hw : (m ((c : Thread nD τ).loc main_arg1) : FVec Ideal S1024x256 .f32) = fun i => ((w i : ℝ) : EReal))

/-- The latent reals with the two grid axes as one. -/
def latent : S16x256x1024.Idx → ℝ := shapeCast S16x256x1024 l shapeCasts_S16x256x32x32_S16x256x1024

include hl in
theorem column_coe (b : Fin 16) (n : Fin 1024) : Block.column m c b n = fun ch => ((latent l (ix3 b ch n) : ℝ) : EReal) := by
  funext ch
  show shapeCast S16x256x1024 _ _ _ = _
  rw [hl]
  rfl

include hw in
theorem code_coe (j : Fin 1024) : Block.code m c j = fun ch => ((w (ix2 j ch) : ℝ) : EReal) := by
  funext ch
  exact congrFun hw _

/-- The code vector nearest to a latent vector. -/
def pick (b : Fin 16) (n : Fin 1024) : Fin 1024 :=
  Nearest.first fun j => ((∑ ch : Fin 256, (w (ix2 j ch) - latent l (ix3 b ch n)) * (w (ix2 j ch) - latent l (ix3 b ch n)) : ℝ) : EReal)

/-- The nearest code vectors. -/
def quantised : S16x256x1024.Idx → ℝ := fun i => w (ix2 (pick l w (i 0) (i 2)) (i 1))

include hl hw in
/-- The kernel chooses it. -/
theorem kernel_pick (b : Fin 16) (n : Fin 1024) : Arrays.pick m c b n = pick l w b n := by
  show Nearest.first (fun j => Distance.kernel (Block.code m c j) (Block.column m c b n)) = _
  simp only [column_coe m c l hl, code_coe m c w hw, Distance.kernel_coe]
  rfl

include hl hw in
/-- So does the reference. -/
theorem reference_pick (b : Fin 16) (n : Fin 1024) :
    RefValue.pick (m ((c : Thread nD τ).loc main_arg0)) (m ((c : Thread nD τ).loc main_arg1)) b n = pick l w b n := by
  show Nearest.first (fun j => Distance.reference (Block.code m c j) (Block.column m c b n)) = _
  simp only [column_coe m c l hl, code_coe m c w hw, Distance.reference_coe]
  rfl

include hl hw in
/-- The kernel's chosen code vectors. -/
theorem kernel_quantised : Arrays.quantised m c = fun i => ((quantised l w i : ℝ) : EReal) := by
  funext i
  idx_vars i
  show Block.code m c (Arrays.pick m c i0 i2) i1 * _ * _ = ((w (ix2 (pick l w i0 i2) i1) : ℝ) : EReal)
  rw [kernel_pick m c l w hl hw, code_coe m c w hw, ← EReal.coe_mul, ← EReal.coe_mul]
  refine congrArg Real.toEReal ?_
  ring

include hl hw in
/-- The reference's chosen code vectors. -/
theorem reference_quantised :
    RefValue.quantised (m ((c : Thread nD τ).loc main_arg0)) (m ((c : Thread nD τ).loc main_arg1)) = fun i => ((quantised l w i : ℝ) : EReal) := by
  funext i
  idx_vars i
  show Block.code m c (RefValue.pick _ _ i0 i2) i1 = ((w (ix2 (pick l w i0 i2) i1) : ℝ) : EReal)
  rw [reference_pick m c l w hl hw, code_coe m c w hw]

include hl hw in
/-- The first results are equal. -/
theorem output_eq : KernelRun.output m c = RefTerm.output (RefTerm.chosen (m ((c : Thread nD τ).loc main_arg0)) (m ((c : Thread nD τ).loc main_arg1)))
    (m ((c : Thread nD τ).loc main_arg0)) := by
  rw [RefValue.chosen_eq, reference_quantised m c l w hl hw, KernelRun.output, kernel_quantised m c l w hl hw, hl]
  exact (RefValue.output_coe (shapeCast S16x256x32x32 (quantised l w) shapeCasts_S16x256x1024_S16x256x32x32) l).symm

include hl hw in
/-- The accumulator: the sum of the squared differences of the latent vectors from the code vectors nearest to them. -/
theorem total_coe : Arrays.total m c
    = ((∑ b : Fin 16, ∑ ch : Fin 256, ∑ n : Fin 1024, (quantised l w (ix3 b ch n) - latent l (ix3 b ch n))
        * (quantised l w (ix3 b ch n) - latent l (ix3 b ch n)) : ℝ) : EReal) := by
  simp only [Arrays.total, Arrays.leastAt, kernel_pick m c l w hl hw, column_coe m c l hl, code_coe m c w hw,
    Distance.kernel_coe, ← Distance.coe_sum, zero_add]
  refine congrArg Real.toEReal (Finset.sum_congr rfl fun b _ => ?_)
  exact Finset.sum_comm

/-- Five quarters. -/
theorem weight_eq : Ideal.ofBits FTy.f32 1067450368#32 = ((5 / 4 : ℝ) : EReal) := by
  simp [Ideal.ofBits, Ideal.ieee, -EReal.coe_mul]; norm_num

include hl hw in
/-- The second results are equal. -/
theorem loss_eq : KernelRun.loss m c = RefTerm.loss (RefTerm.chosen (m ((c : Thread nD τ).loc main_arg0)) (m ((c : Thread nD τ).loc main_arg1)))
    (m ((c : Thread nD τ).loc main_arg0)) := by
  funext j
  rw [RefValue.chosen_eq, reference_quantised m c l w hl hw]
  have hx : (m ((c : Thread nD τ).loc main_arg0) : FVec Ideal S16x256x32x32 .f32)
      = shapeCast S16x256x32x32 (fun i => ((latent l i : ℝ) : EReal)) shapeCasts_S16x256x1024_S16x256x32x32 := by
    rw [hl]
    exact (RefValue.latent_back fun i => ((l i : ℝ) : EReal)).symm
  rw [hx]
  refine Eq.trans ?_ (RefValue.loss_coe (quantised l w) (latent l) j).symm
  show Ideal.div (Ideal.ofBits FTy.f32 1067450368#32 * Arrays.total m c) (Ideal.ofBits FTy.f32 1249902592#32) = _
  rw [weight_eq, RefValue.count_eq, total_coe m c l w hl hw, ← EReal.coe_mul]
  exact RefValue.div_coe _ _ (by norm_num)

end Cert.Equation

end
-- ==== Proof.lean ====
/- The proof of the five claims: the three programs' frames, that the idealized kernel preserves the kernel, and that on
   real arguments the idealized kernel's two results are the idealized reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefRun
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem

/-- On real arguments both programs end with the kernel's two results. -/
theorem equal : Cert.algebraic_KernelIdeal_ReferenceIdeal_pre_finite := by
  intro m g m' g' hpre hagree
  refine ⟨fun c => Cert.KernelRun.output m c, fun c => Cert.KernelRun.loss m c, Cert.KernelRun.run m g,
    (θ_run _ _ _).mono (fun r h c => ?_) (Cert.RefRun.run m' g')⟩
  obtain ⟨ho, hl, h0, h1⟩ := h c
  obtain ⟨a0, a1⟩ := hagree c
  obtain ⟨hx, he⟩ := Cert.Finite.real_of_pre _ _ (hpre c)
  choose l hl' using hx
  choose w hw' using he
  refine ⟨ho.trans ?_, hl.trans ?_, h0, h1⟩
  · rw [a0, a1]
    exact (Cert.Equation.output_eq m c l w (funext hl') (funext hw')).symm
  · rw [a0, a1]
    exact (Cert.Equation.loss_eq m c l w (funext hl') (funext hw')).symm

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.RefRun.frame m ρ, fun m ρ _ => Cert.RefRun.frame m ρ, trivial, equal⟩

end Cert.Proof

end
